-- ==== Defs.lean ====
def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_xattn_finite [hPre_xattn_finite : Cert.Pre_xattn_finite.Facts] (m : (ℓ : Loc Cert.XattnIdeal.nD Cert.XattnIdeal.τ Cert.XattnIdeal.sig) → Buf (Elt Ideal) ℓ) : Prop :=
  ∀ c : Dev Cert.XattnIdeal.nD,
    (Cert.Pre_xattn_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_xattn_finite [hPre_xattn_finite : Cert.Pre_xattn_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_xattn_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnIdeal_pre_xattn_finite [hXattnIdeal : Cert.XattnIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_xattn_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_XattnRefIdeal_pre_xattn_finite [hXattnRefIdeal : Cert.XattnRefIdeal.Facts] [hPre_xattn_finite : Cert.Pre_xattn_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_xattn_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def preserves_Xattn_XattnIdeal : Prop :=
  True

def algebraic_XattnIdeal_XattnRefIdeal_pre_xattn_finite [hXattnIdeal : Cert.XattnIdeal.Facts] [hXattnRefIdeal : Cert.XattnRefIdeal.Facts] [hPre_xattn_finite : Cert.Pre_xattn_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_xattn_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v12)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v12) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v49) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v14)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v14) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v39) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9))

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v46)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v46) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v75) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def Claim : Prop :=
  ∃ (hXattn : Cert.Xattn.Facts) (hXattnIdeal : Cert.XattnIdeal.Facts) (hXattnRefIdeal : Cert.XattnRefIdeal.Facts) (hOut : Cert.Out.Facts) (hOutIdeal : Cert.OutIdeal.Facts) (hOutRefIdeal : Cert.OutRefIdeal.Facts) (hAttn : Cert.Attn.Facts) (hAttnIdeal : Cert.AttnIdeal.Facts) (hAttnRefIdeal : Cert.AttnRefIdeal.Facts) (hPre_xattn_finite : Cert.Pre_xattn_finite.Facts) (hPre_attn_finite : Cert.Pre_attn_finite.Facts),
    quiescent_Xattn (hXattn := hXattn)
    ∧ quiescent_XattnIdeal (hXattnIdeal := hXattnIdeal)
    ∧ quiescent_XattnIdeal_pre_xattn_finite (hXattnIdeal := hXattnIdeal) (hPre_xattn_finite := hPre_xattn_finite)
    ∧ quiescent_XattnRefIdeal (hXattnRefIdeal := hXattnRefIdeal)
    ∧ quiescent_XattnRefIdeal_pre_xattn_finite (hXattnRefIdeal := hXattnRefIdeal) (hPre_xattn_finite := hPre_xattn_finite)
    ∧ quiescent_Out (hOut := hOut)
    ∧ quiescent_OutIdeal (hOutIdeal := hOutIdeal)
    ∧ quiescent_OutRefIdeal (hOutRefIdeal := hOutRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ preserves_Xattn_XattnIdeal
    ∧ algebraic_XattnIdeal_XattnRefIdeal_pre_xattn_finite (hXattnIdeal := hXattnIdeal) (hXattnRefIdeal := hXattnRefIdeal) (hPre_xattn_finite := hPre_xattn_finite)
    ∧ preserves_Out_OutIdeal
    ∧ algebraic_OutIdeal_OutRefIdeal (hOutIdeal := hOutIdeal) (hOutRefIdeal := hOutRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
-- ==== Pre_attn_finite.lean ====
abbrev S16x2048x512 : Shape := ⟨3, ![16, 2048, 512]⟩
abbrev S16x2048x128 : Shape := ⟨3, ![16, 2048, 128]⟩
abbrev S8 : Shape := ⟨1, ![8]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S16x2048x512 .f32) (main_arg1 : FVec F S16x2048x128 .f32) (main_arg2 : FVec F S16x2048x128 .f32) (main_arg3 : FVec F S8 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_xattn_finite.lean ====
abbrev S16x2048x512 : Shape := ⟨3, ![16, 2048, 512]⟩
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S_ : Shape := ⟨0, ![]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S16x2048x512 .f32) (main_arg1 : FVec F S16x256x1024 .f32) (main_arg2 : FVec F S1024 .f32) (main_arg3 : FVec F S1024x1024 .f32) (main_arg4 : FVec F S128 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Xattn.lean ====
abbrev S16x2048x512 : Shape := ⟨3, ![16, 2048, 512]⟩
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S32768x512 : Shape := ⟨2, ![32768, 512]⟩
abbrev S_ : Shape := ⟨0, ![]⟩
abbrev S4096x1024 : Shape := ⟨2, ![4096, 1024]⟩
abbrev S1x1024 : Shape := ⟨2, ![1, 1024]⟩
abbrev S1x128 : Shape := ⟨2, ![1, 128]⟩
abbrev S2048x512 : Shape := ⟨2, ![2048, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S2048x128 : Shape := ⟨2, ![2048, 128]⟩
abbrev S2048x256 : Shape := ⟨2, ![2048, 256]⟩
abbrev S2048 : Shape := ⟨1, ![2048]⟩
abbrev S2048x1 : Shape := ⟨2, ![2048, 1]⟩

abbrev nBuf : Space → Nat
  | .hbm => 20
  | .vmem => 11
  | .smem => 0
  | _ => 0

abbrev bufTy : (tb : Table) → Fin (tcTables nBuf tb) → BufTy
  | .hbm, ⟨0, _⟩ => ⟨S16x2048x512, .f32⟩
  | .hbm, ⟨1, _⟩ => ⟨S16x256x1024, .f32⟩
  | .hbm, ⟨2, _⟩ => ⟨S1024, .f32⟩
  | .hbm, ⟨3, _⟩ => ⟨S1024x1024, .f32⟩
  | .hbm, ⟨4, _⟩ => ⟨S128, .f32⟩
  | .hbm, ⟨5, _⟩ => ⟨S32768x512, .f32⟩
  | .hbm, ⟨6, _⟩ => ⟨S_, .f32⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32768x512, .f32⟩
  | .hbm, ⟨13, _⟩ => ⟨S32768x512, .f32⟩
  | .hbm, ⟨14, _⟩ => ⟨S32768x512, .bf16⟩
  | .hbm, ⟨15, _⟩ => ⟨S4096x1024, .f32⟩
  | .hbm, ⟨16, _⟩ => ⟨S1x1024, .f32⟩
  | .hbm, ⟨17, _⟩ => ⟨S1024x1024, .bf16⟩
  | .hbm, ⟨18, _⟩ => ⟨S1x128, .f32⟩
  | .hbm, ⟨19, _⟩ => ⟨S32768x512, .bf16⟩
  | .local _ .vmem, ⟨0, _⟩ => ⟨S2048x512, .bf16⟩
  | .local _ .vmem, ⟨1, _⟩ => ⟨S2048x512, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S1x128, .f32⟩
  | .local _ .vmem, ⟨7, _⟩ => ⟨S2048x512, .bf16⟩
  | .local _ .vmem, ⟨8, _⟩ => ⟨S2048x512, .bf16⟩
  | .local _ .vmem, ⟨9, _⟩ => ⟨S256x512, .bf16⟩
  | .local _ .vmem, ⟨10, _⟩ => ⟨S256x512, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XattnRefIdeal.lean ====
abbrev S16x2048x512 : Shape := ⟨3, ![16, 2048, 512]⟩
abbrev S16x256x1024 : Shape := ⟨3, ![16, 256, 1024]⟩
abbrev S1024 : Shape := ⟨1, ![1024]⟩
abbrev S1024x1024 : Shape := ⟨2, ![1024, 1024]⟩
abbrev S128 : Shape := ⟨1, ![128]⟩
abbrev S16x2048x4x128 : Shape := ⟨4, ![16, 2048, 4, 128]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩
abbrev S16x256x512 : Shape := ⟨3, ![16, 256, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S1x1x1x128 : Shape := ⟨4, ![1, 1, 1, 128]⟩
abbrev S16x4x2048x256 : Shape := ⟨4, ![16, 4, 2048, 256]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩
abbrev S32768x512 : Shape := ⟨2, ![32768, 512]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x256x1024, .f32⟩
  | .hbm, ⟨2, _⟩ => ⟨S1024, .f32⟩
  | .hbm, ⟨3, _⟩ => ⟨S1024x1024, .f32⟩
  | .hbm, ⟨4, _⟩ => ⟨S128, .f32⟩
  | .hbm, ⟨5, _⟩ => ⟨S16x2048x4x128, .f32⟩
  | .hbm, ⟨6, _⟩ => ⟨S16x256x1024, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x1024, .f32⟩
  | .hbm, ⟨18, _⟩ => ⟨S16x256x1024, .f32⟩
  | .hbm, ⟨19, _⟩ => ⟨S1x1x1024, .f32⟩
  | .hbm, ⟨20, _⟩ => ⟨S16x256x1024, .f32⟩
  | .hbm, ⟨21, _⟩ => ⟨S16x256x1024, .f32⟩
  | .hbm, ⟨22, _⟩ => ⟨S16x256x1024, .f32⟩
  | .hbm, ⟨23, _⟩ => ⟨S16x256x512, .f32⟩
  | .hbm, ⟨24, _⟩ => ⟨S16x256x4x128, .f32⟩
  | .hbm, ⟨25, _⟩ => ⟨S16x256x4x128, .f32⟩
  | .hbm, ⟨26, _⟩ => ⟨S_, .f32⟩
  | .hbm, ⟨27, _⟩ => ⟨S16x256x4, .f32⟩
  | .hbm, ⟨28, _⟩ => ⟨S16x256x4x1, .f32⟩
  | .hbm, ⟨29, _⟩ => ⟨S_, .f32⟩
  | .hbm, ⟨30, _⟩ => ⟨S16x256x4x1, .f32⟩
  | .hbm, ⟨31, _⟩ => ⟨S16x256x4x1, .f32⟩
  | .hbm, ⟨32, _⟩ => ⟨S_, .f32⟩
  | .hbm, ⟨33, _⟩ => ⟨S16x256x4x1, .f32⟩
  | .hbm, ⟨34, _⟩ => ⟨S16x256x4x1, .f32⟩
  | .hbm, ⟨35, _⟩ => ⟨S16x256x4x1, .f32⟩
  | .hbm, ⟨36, _⟩ => ⟨S16x256x4x128, .f32⟩
  | .hbm, ⟨37, _⟩ => ⟨S16x256x4x128, .f32⟩
  | .hbm, ⟨38, _⟩ => ⟨S1x1x1x128, .f32⟩
  | .hbm, ⟨39, _⟩ => ⟨S16x256x4x128, .f32⟩
  | .hbm, ⟨40, _⟩ => ⟨S16x256x4x128, .f32⟩
  | .hbm, ⟨41, _⟩ => ⟨S16x256x512, .f32⟩
  | .hbm, ⟨42, _⟩ => ⟨S16x256x4x128, .f32⟩
  | .hbm, ⟨43, _⟩ => ⟨S16x4x2048x256, .f32⟩
  | .hbm, ⟨44, _⟩ => ⟨S_, .f32⟩
  | .hbm, ⟨45, _⟩ => ⟨S16x4x2048x256, .f32⟩
  | .hbm, ⟨46, _⟩ => ⟨S16x4x2048x256, .f32⟩
  | .hbm, ⟨47, _⟩ => ⟨S_, .f32⟩
  | .hbm, ⟨48, _⟩ => ⟨S16x4x2048, .f32⟩
  | .hbm, ⟨49, _⟩ => ⟨S_, .f32⟩
  | .hbm, ⟨50, _⟩ => ⟨S16x4x2048, .f32⟩
  | .hbm, ⟨51, _⟩ => ⟨S16x4x2048, .f32⟩
  | .hbm, ⟨52, _⟩ => ⟨S16x4x2048x1, .f32⟩
  | .hbm, ⟨53, _⟩ => ⟨S16x4x2048x256, .f32⟩
  | .hbm, ⟨54, _⟩ => ⟨S16x4x2048x256, .f32⟩
  | .hbm, ⟨55, _⟩ => ⟨S16x4x2048x256, .f32⟩
  | .hbm, ⟨56, _⟩ => ⟨S_, .f32⟩
  | .hbm, ⟨57, _⟩ => ⟨S16x4x2048, .f32⟩
  | .hbm, ⟨58, _⟩ => ⟨S16x4x2048x1, .f32⟩
  | .hbm, ⟨59, _⟩ => ⟨S16x4x2048x256, .f32⟩
  | .hbm, ⟨60, _⟩ => ⟨S16x4x2048x256, .f32⟩
  | .hbm, ⟨61, _⟩ => ⟨S16x4x128x2048, .f32⟩
  | .hbm, ⟨62, _⟩ => ⟨S16x2048x4x128, .f32⟩
  | .hbm, ⟨63, _⟩ => ⟨S32768x512, .f32⟩
  | .hbm, ⟨64, _⟩ => ⟨S32768x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Out.lean ====
abbrev S16x2048x1024 : Shape := ⟨3, ![16, 2048, 1024]⟩
abbrev S16x2048x512 : Shape := ⟨3, ![16, 2048, 512]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S32768x1024 : Shape := ⟨2, ![32768, 1024]⟩
abbrev S32768x512 : Shape := ⟨2, ![32768, 512]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1024x1024 : Shape := ⟨2, ![1024, 1024]⟩

abbrev nBuf : Space → Nat
  | .hbm => 25
  | .vmem => 17
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x1024, .f32⟩
  | .hbm, ⟨3, _⟩ => ⟨S16x2048x1024, .f32⟩
  | .hbm, ⟨4, _⟩ => ⟨S16x2048x512, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S32768x1024, .f32⟩
  | .hbm, ⟨11, _⟩ => ⟨S32768x512, .f32⟩
  | .hbm, ⟨12, _⟩ => ⟨S32768x512, .bf16⟩
  | .hbm, ⟨13, _⟩ => ⟨S32768x1024, .f32⟩
  | .hbm, ⟨14, _⟩ => ⟨S32768x1024, .bf16⟩
  | .hbm, ⟨15, _⟩ => ⟨S32768x1024, .f32⟩
  | .hbm, ⟨16, _⟩ => ⟨S32768x1024, .bf16⟩
  | .hbm, ⟨17, _⟩ => ⟨S32768x512, .f32⟩
  | .hbm, ⟨18, _⟩ => ⟨S32768x512, .bf16⟩
  | .hbm, ⟨19, _⟩ => ⟨S2048x1024, .bf16⟩
  | .hbm, ⟨20, _⟩ => ⟨S1x1024, .f32⟩
  | .hbm, ⟨21, _⟩ => ⟨S1x1024, .f32⟩
  | .hbm, ⟨22, _⟩ => ⟨S1024x4096, .bf16⟩
  | .hbm, ⟨23, _⟩ => ⟨S4096x1024, .bf16⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S2048x1024, .bf16⟩
  | .local _ .vmem, ⟨11, _⟩ => ⟨S1x1024, .f32⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S512x1024, .f32⟩
  | .local _ .vmem, ⟨16, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutRefIdeal.lean ====
abbrev S16x2048x1024 : Shape := ⟨3, ![16, 2048, 1024]⟩
abbrev S16x2048x512 : Shape := ⟨3, ![16, 2048, 512]⟩
abbrev S2048x1024 : Shape := ⟨2, ![2048, 1024]⟩
abbrev S1024 : Shape := ⟨1, ![1024]⟩
abbrev S1024x4096 : Shape := ⟨2, ![1024, 4096]⟩
abbrev S4096x1024 : Shape := ⟨2, ![4096, 1024]⟩
abbrev S16x2048x2x512 : Shape := ⟨4, ![16, 2048, 2, 512]⟩
abbrev S2x512 : Shape := ⟨2, ![2, 512]⟩
abbrev S_ : Shape := ⟨0, ![]⟩
abbrev S16x2048x2 : Shape := ⟨3, ![16, 2048, 2]⟩
abbrev S16x2048x2x1 : Shape := ⟨4, ![16, 2048, 2, 1]⟩
abbrev S1x1x2x512 : Shape := ⟨4, ![1, 1, 2, 512]⟩
abbrev S16x2048x2048 : Shape := ⟨3, ![16, 2048, 2048]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x1024, .f32⟩
  | .hbm, ⟨3, _⟩ => ⟨S16x2048x1024, .f32⟩
  | .hbm, ⟨4, _⟩ => ⟨S16x2048x512, .f32⟩
  | .hbm, ⟨5, _⟩ => ⟨S2048x1024, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S4096x1024, .f32⟩
  | .hbm, ⟨10, _⟩ => ⟨S16x2048x1024, .f32⟩
  | .hbm, ⟨11, _⟩ => ⟨S16x2048x2x512, .f32⟩
  | .hbm, ⟨12, _⟩ => ⟨S2x512, .f32⟩
  | .hbm, ⟨13, _⟩ => ⟨S16x2048x2x512, .f32⟩
  | .hbm, ⟨14, _⟩ => ⟨S_, .f32⟩
  | .hbm, ⟨15, _⟩ => ⟨S16x2048x2, .f32⟩
  | .hbm, ⟨16, _⟩ => ⟨S16x2048x2x1, .f32⟩
  | .hbm, ⟨17, _⟩ => ⟨S_, .f32⟩
  | .hbm, ⟨18, _⟩ => ⟨S16x2048x2x1, .f32⟩
  | .hbm, ⟨19, _⟩ => ⟨S16x2048x2x1, .f32⟩
  | .hbm, ⟨20, _⟩ => ⟨S_, .f32⟩
  | .hbm, ⟨21, _⟩ => ⟨S16x2048x2x1, .f32⟩
  | .hbm, ⟨22, _⟩ => ⟨S16x2048x2x1, .f32⟩
  | .hbm, ⟨23, _⟩ => ⟨S16x2048x2x1, .f32⟩
  | .hbm, ⟨24, _⟩ => ⟨S16x2048x2x512, .f32⟩
  | .hbm, ⟨25, _⟩ => ⟨S16x2048x2x512, .f32⟩
  | .hbm, ⟨26, _⟩ => ⟨S1x1x2x512, .f32⟩
  | .hbm, ⟨27, _⟩ => ⟨S16x2048x2x512, .f32⟩
  | .hbm, ⟨28, _⟩ => ⟨S16x2048x2x512, .f32⟩
  | .hbm, ⟨29, _⟩ => ⟨S16x2048x1024, .f32⟩
  | .hbm, ⟨30, _⟩ => ⟨S16x2048x2048, .f32⟩
  | .hbm, ⟨31, _⟩ => ⟨S16x2048x1024, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x2048, .f32⟩
  | .hbm, ⟨36, _⟩ => ⟨S16x2048x1, .f32⟩
  | .hbm, ⟨37, _⟩ => ⟨S_, .f32⟩
  | .hbm, ⟨38, _⟩ => ⟨S16x2048x1, .f32⟩
  | .hbm, ⟨39, _⟩ => ⟨S16x2048x1, .f32⟩
  | .hbm, ⟨40, _⟩ => ⟨S_, .f32⟩
  | .hbm, ⟨41, _⟩ => ⟨S16x2048x1, .f32⟩
  | .hbm, ⟨42, _⟩ => ⟨S16x2048x1, .f32⟩
  | .hbm, ⟨43, _⟩ => ⟨S16x2048x1, .f32⟩
  | .hbm, ⟨44, _⟩ => ⟨S16x2048x1024, .f32⟩
  | .hbm, ⟨45, _⟩ => ⟨S16x2048x1024, .f32⟩
  | .hbm, ⟨46, _⟩ => ⟨S1x1x1024, .f32⟩
  | .hbm, ⟨47, _⟩ => ⟨S16x2048x1024, .f32⟩
  | .hbm, ⟨48, _⟩ => ⟨S16x2048x1024, .f32⟩
  | .hbm, ⟨49, _⟩ => ⟨S16x2048x4096, .f32⟩
  | .hbm, ⟨50, _⟩ => ⟨S_, .f32⟩
  | .hbm, ⟨51, _⟩ => ⟨S16x2048x4096, .f32⟩
  | .hbm, ⟨52, _⟩ => ⟨S16x2048x4096, .f32⟩
  | .hbm, ⟨53, _⟩ => ⟨S16x2048x4096, .f32⟩
  | .hbm, ⟨54, _⟩ => ⟨S16x2048x1024, .f32⟩
  | .hbm, ⟨55, _⟩ => ⟨S16x2048x1024, .f32⟩
  | .hbm, ⟨56, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Attn.lean ====
abbrev S16x2048x512 : Shape := ⟨3, ![16, 2048, 512]⟩
abbrev S16x2048x128 : Shape := ⟨3, ![16, 2048, 128]⟩
abbrev S8 : Shape := ⟨1, ![8]⟩
abbrev S32768x512 : Shape := ⟨2, ![32768, 512]⟩
abbrev S_ : Shape := ⟨0, ![]⟩
abbrev S32768x128 : Shape := ⟨2, ![32768, 128]⟩
abbrev S32768x64 : Shape := ⟨2, ![32768, 64]⟩
abbrev S32768x256 : Shape := ⟨2, ![32768, 256]⟩
abbrev S16x128x2048 : Shape := ⟨3, ![16, 128, 2048]⟩
abbrev S2048x2048 : Shape := ⟨2, ![2048, 2048]⟩
abbrev S384 : Shape := ⟨1, ![384]⟩
abbrev S384x1 : Shape := ⟨2, ![384, 1]⟩
abbrev S512 : Shape := ⟨1, ![512]⟩
abbrev S1x512 : Shape := ⟨2, ![1, 512]⟩
abbrev S384x512 : Shape := ⟨2, ![384, 512]⟩
abbrev S1x384x512 : Shape := ⟨3, ![1, 384, 512]⟩
abbrev S3x384x512 : Shape := ⟨3, ![3, 384, 512]⟩
abbrev S2048x512 : Shape := ⟨2, ![2048, 512]⟩
abbrev S128x256 : Shape := ⟨2, ![128, 256]⟩
abbrev S2048x256 : Shape := ⟨2, ![2048, 256]⟩
abbrev S128x128 : Shape := ⟨2, ![128, 128]⟩
abbrev S128x2048 : Shape := ⟨2, ![128, 2048]⟩
abbrev S64x128 : Shape := ⟨2, ![64, 128]⟩
abbrev S64x384 : Shape := ⟨2, ![64, 384]⟩
abbrev S384x128 : Shape := ⟨2, ![384, 128]⟩
abbrev S1 : Shape := ⟨1, ![1]⟩
abbrev S512x128 : Shape := ⟨2, ![512, 128]⟩
abbrev S128x512 : Shape := ⟨2, ![128, 512]⟩
abbrev S1x128x512 : Shape := ⟨3, ![1, 128, 512]⟩
abbrev S128x384 : Shape := ⟨2, ![128, 384]⟩
abbrev S64x512 : Shape := ⟨2, ![64, 512]⟩

abbrev nBuf : Space → Nat
  | .hbm => 81
  | .vmem => 19
  | .smem => 1
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S8, .f32⟩
  | .hbm, ⟨4, _⟩ => ⟨S32768x512, .f32⟩
  | .hbm, ⟨5, _⟩ => ⟨S_, .f32⟩
  | .hbm, ⟨6, _⟩ => ⟨S32768x512, .f32⟩
  | .hbm, ⟨7, _⟩ => ⟨S32768x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32768x512, .f32⟩
  | .hbm, ⟨12, _⟩ => ⟨S32768x512, .f32⟩
  | .hbm, ⟨13, _⟩ => ⟨S32768x512, .bf16⟩
  | .hbm, ⟨14, _⟩ => ⟨S32768x128, .f32⟩
  | .hbm, ⟨15, _⟩ => ⟨S32768x128, .bf16⟩
  | .hbm, ⟨16, _⟩ => ⟨S32768x64, .bf16⟩
  | .hbm, ⟨17, _⟩ => ⟨S32768x64, .bf16⟩
  | .hbm, ⟨18, _⟩ => ⟨S32768x64, .bf16⟩
  | .hbm, ⟨19, _⟩ => ⟨S32768x64, .bf16⟩
  | .hbm, ⟨20, _⟩ => ⟨S32768x256, .bf16⟩
  | .hbm, ⟨21, _⟩ => ⟨S16x128x2048, .f32⟩
  | .hbm, ⟨22, _⟩ => ⟨S2048x2048, .f32⟩
  | .hbm, ⟨23, _⟩ => ⟨S2048x2048, .bf16⟩
  | .hbm, ⟨24, _⟩ => ⟨S384, .i32⟩
  | .hbm, ⟨25, _⟩ => ⟨S384x1, .i32⟩
  | .hbm, ⟨26, _⟩ => ⟨S512, .i32⟩
  | .hbm, ⟨27, _⟩ => ⟨S1x512, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S1x512, .i32⟩
  | .hbm, ⟨35, _⟩ => ⟨S1x512, .i32⟩
  | .hbm, ⟨36, _⟩ => ⟨S_, .i32⟩
  | .hbm, ⟨37, _⟩ => ⟨S1x512, .i32⟩
  | .hbm, ⟨38, _⟩ => ⟨S1x512, .i1⟩
  | .hbm, ⟨39, _⟩ => ⟨S_, .i32⟩
  | .hbm, ⟨40, _⟩ => ⟨S1x512, .i32⟩
  | .hbm, ⟨41, _⟩ => ⟨S1x512, .i1⟩
  | .hbm, ⟨42, _⟩ => ⟨S_, .i32⟩
  | .hbm, ⟨43, _⟩ => ⟨S_, .i1⟩
  | .hbm, ⟨44, _⟩ => ⟨S1x512, .i1⟩
  | .hbm, ⟨45, _⟩ => ⟨S1x512, .i1⟩
  | .hbm, ⟨46, _⟩ => ⟨S1x512, .i1⟩
  | .hbm, ⟨47, _⟩ => ⟨S1x512, .i32⟩
  | .hbm, ⟨48, _⟩ => ⟨S1x512, .i32⟩
  | .hbm, ⟨49, _⟩ => ⟨S1x512, .i32⟩
  | .hbm, ⟨50, _⟩ => ⟨S384x512, .i32⟩
  | .hbm, ⟨51, _⟩ => ⟨S384x512, .i32⟩
  | .hbm, ⟨52, _⟩ => ⟨S384x512, .i1⟩
  | .hbm, ⟨53, _⟩ => ⟨S_, .i32⟩
  | .hbm, ⟨54, _⟩ => ⟨S1x512, .i32⟩
  | .hbm, ⟨55, _⟩ => ⟨S1x512, .i32⟩
  | .hbm, ⟨56, _⟩ => ⟨S384x512, .i32⟩
  | .hbm, ⟨57, _⟩ => ⟨S384x512, .i32⟩
  | .hbm, ⟨58, _⟩ => ⟨S384x512, .i1⟩
  | .hbm, ⟨59, _⟩ => ⟨S384x512, .i1⟩
  | .hbm, ⟨60, _⟩ => ⟨S_, .i32⟩
  | .hbm, ⟨61, _⟩ => ⟨S384x1, .i32⟩
  | .hbm, ⟨62, _⟩ => ⟨S384x1, .i1⟩
  | .hbm, ⟨63, _⟩ => ⟨S384x512, .i1⟩
  | .hbm, ⟨64, _⟩ => ⟨S384x512, .i1⟩
  | .hbm, ⟨65, _⟩ => ⟨S_, .i32⟩
  | .hbm, ⟨66, _⟩ => ⟨S384x1, .i32⟩
  | .hbm, ⟨67, _⟩ => ⟨S384x1, .i1⟩
  | .hbm, ⟨68, _⟩ => ⟨S384x512, .i1⟩
  | .hbm, ⟨69, _⟩ => ⟨S384x512, .i1⟩
  | .hbm, ⟨70, _⟩ => ⟨S1x384x512, .i1⟩
  | .hbm, ⟨71, _⟩ => ⟨S1x384x512, .i1⟩
  | .hbm, ⟨72, _⟩ => ⟨S1x384x512, .i1⟩
  | .hbm, ⟨73, _⟩ => ⟨S3x384x512, .i1⟩
  | .hbm, ⟨74, _⟩ => ⟨S_, .f32⟩
  | .hbm, ⟨75, _⟩ => ⟨S_, .f32⟩
  | .hbm, ⟨76, _⟩ => ⟨S3x384x512, .f32⟩
  | .hbm, ⟨77, _⟩ => ⟨S3x384x512, .f32⟩
  | .hbm, ⟨78, _⟩ => ⟨S3x384x512, .f32⟩
  | .hbm, ⟨79, _⟩ => ⟨S3x384x512, .f32⟩
  | .hbm, ⟨80, _⟩ => ⟨S32768x512, .bf16⟩
  | .local _ .vmem, ⟨0, _⟩ => ⟨S1x384x512, .f32⟩
  | .local _ .vmem, ⟨1, _⟩ => ⟨S1x384x512, .f32⟩
  | .local _ .vmem, ⟨2, _⟩ => ⟨S1x384x512, .f32⟩
  | .local _ .vmem, ⟨3, _⟩ => ⟨S2048x512, .bf16⟩
  | .local _ .vmem, ⟨4, _⟩ => ⟨S2048x512, .bf16⟩
  | .local _ .vmem, ⟨5, _⟩ => ⟨S128x256, .bf16⟩
  | .local _ .vmem, ⟨6, _⟩ => ⟨S128x256, .bf16⟩
  | .local _ .vmem, ⟨7, _⟩ => ⟨S2048x256, .bf16⟩
  | .local _ .vmem, ⟨8, _⟩ => ⟨S2048x256, .bf16⟩
  | .local _ .vmem, ⟨9, _⟩ => ⟨S128x256, .bf16⟩
  | .local _ .vmem, ⟨10, _⟩ => ⟨S128x256, .bf16⟩
  | .local _ .vmem, ⟨11, _⟩ => ⟨S128x128, .bf16⟩
  | .local _ .vmem, ⟨12, _⟩ => ⟨S128x128, .bf16⟩
  | .local _ .vmem, ⟨13, _⟩ => ⟨S128x2048, .bf16⟩
  | .local _ .vmem, ⟨14, _⟩ => ⟨S128x2048, .bf16⟩
  | .local _ .vmem, ⟨15, _⟩ => ⟨S128x128, .bf16⟩
  | .local _ .vmem, ⟨16, _⟩ => ⟨S128x128, .bf16⟩
  | .local _ .vmem, ⟨17, _⟩ => ⟨S2048x512, .bf16⟩
  | .local _ .vmem, ⟨18, _⟩ => ⟨S2048x512, .bf16⟩
  | .local _ .smem, ⟨0, _⟩ => ⟨S8, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_2 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_4 : Ref sig .tc := ⟨.hbm, 74, rfl⟩
abbrev main_cst_5 : Ref sig .tc := ⟨.hbm, 75, rfl⟩
abbrev main_call1_v0 : Ref sig .tc := ⟨.hbm, 76, rfl⟩
abbrev main_call1_v1 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c2_i32 : BitVec 32 := 2#32
  let c1_i32 : BitVec 32 := 1#32
  let v1 : BitVec 32 := Scalar.select v0 c2_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.muli c16_i32_0 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.muli c16_i32_0 arg1
  let c16_i32_1 : BitVec 32 := 16#32
  let v2 : BitVec 32 := Scalar.addi v1 c16_i32_1
  let c15_i32 : BitVec 32 := 15#32
  let v3 : BitVec 32 := Scalar.minsi v2 c15_i32
  let v4 : BitVec 32 := Scalar.addi v0 v3
  let c0_i32 : BitVec 32 := 0#32
  let c0_i32_2 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli c16_i32 arg1
  let c16_i32_0 : BitVec 32 := 16#32
  let v1 : BitVec 32 := Scalar.addi v0 c16_i32_0
  let c15_i32 : BitVec 32 := 15#32
  let v2 : BitVec 32 := Scalar.minsi v1 c15_i32
  let c0_i32 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x384x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x384x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S16x2048x512 : Shape := ⟨3, ![16, 2048, 512]⟩
abbrev S16x2048x128 : Shape := ⟨3, ![16, 2048, 128]⟩
abbrev S8 : Shape := ⟨1, ![8]⟩
abbrev S16x16x128x2x4x64 : Shape := ⟨6, ![16, 16, 128, 2, 4, 64]⟩
abbrev S16x2048x2x64 : Shape := ⟨4, ![16, 2048, 2, 64]⟩
abbrev S_ : Shape := ⟨0, ![]⟩
abbrev S16x2304x2x64 : Shape := ⟨4, ![16, 2304, 2, 64]⟩
abbrev S16x18x128x2x64 : Shape := ⟨5, ![16, 18, 128, 2, 64]⟩
abbrev S16x16x128x2x64 : Shape := ⟨5, ![16, 16, 128, 2, 64]⟩
abbrev S16x16x384x2x64 : Shape := ⟨5, ![16, 16, 384, 2, 64]⟩
abbrev S16x16x2x384x128x4 : Shape := ⟨6, ![16, 16, 2, 384, 128, 4]⟩
abbrev S16x16x2x4x128x384 : Shape := ⟨6, ![16, 16, 2, 4, 128, 384]⟩
abbrev S16 : Shape := ⟨1, ![16]⟩
abbrev S16x1 : Shape := ⟨2, ![16, 1]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x1x384 : Shape := ⟨3, ![16, 1, 384]⟩
abbrev S16x128x1 : Shape := ⟨3, ![16, 128, 1]⟩
abbrev S16x128x384 : Shape := ⟨3, ![16, 128, 384]⟩
abbrev S1x16x1x1x128x384 : Shape := ⟨6, ![1, 16, 1, 1, 128, 384]⟩
abbrev S1x1x2x4x1x1 : Shape := ⟨6, ![1, 1, 2, 4, 1, 1]⟩
abbrev S16x16x2x4x128x1 : Shape := ⟨6, ![16, 16, 2, 4, 128, 1]⟩
abbrev S16x16x2x4x128x385 : Shape := ⟨6, ![16, 16, 2, 4, 128, 385]⟩
abbrev S16x16x2x4x128 : Shape := ⟨5, ![16, 16, 2, 4, 128]⟩
abbrev S16x16x2x64x4x128 : Shape := ⟨6, ![16, 16, 2, 64, 4, 128]⟩
abbrev S32768x512 : Shape := ⟨2, ![32768, 512]⟩

abbrev nBuf : Space → Nat
  | .hbm => 98
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S8, .f32⟩
  | .hbm, ⟨4, _⟩ => ⟨S16x16x128x2x4x64, .f32⟩
  | .hbm, ⟨5, _⟩ => ⟨S16x2048x2x64, .f32⟩
  | .hbm, ⟨6, _⟩ => ⟨S_, .i32⟩
  | .hbm, ⟨7, _⟩ => ⟨S_, .f32⟩
  | .hbm, ⟨8, _⟩ => ⟨S16x2304x2x64, .f32⟩
  | .hbm, ⟨9, _⟩ => ⟨S16x18x128x2x64, .f32⟩
  | .hbm, ⟨10, _⟩ => ⟨S16x2048x2x64, .f32⟩
  | .hbm, ⟨11, _⟩ => ⟨S_, .i32⟩
  | .hbm, ⟨12, _⟩ => ⟨S_, .f32⟩
  | .hbm, ⟨13, _⟩ => ⟨S16x2304x2x64, .f32⟩
  | .hbm, ⟨14, _⟩ => ⟨S16x18x128x2x64, .f32⟩
  | .hbm, ⟨15, _⟩ => ⟨S16x16x128x2x64, .f32⟩
  | .hbm, ⟨16, _⟩ => ⟨S16x16x128x2x64, .f32⟩
  | .hbm, ⟨17, _⟩ => ⟨S16x16x128x2x64, .f32⟩
  | .hbm, ⟨18, _⟩ => ⟨S16x16x384x2x64, .f32⟩
  | .hbm, ⟨19, _⟩ => ⟨S16x16x128x2x64, .f32⟩
  | .hbm, ⟨20, _⟩ => ⟨S16x16x128x2x64, .f32⟩
  | .hbm, ⟨21, _⟩ => ⟨S16x16x128x2x64, .f32⟩
  | .hbm, ⟨22, _⟩ => ⟨S16x16x384x2x64, .f32⟩
  | .hbm, ⟨23, _⟩ => ⟨S16x16x2x384x128x4, .f32⟩
  | .hbm, ⟨24, _⟩ => ⟨S16x16x2x4x128x384, .f32⟩
  | .hbm, ⟨25, _⟩ => ⟨S_, .f32⟩
  | .hbm, ⟨26, _⟩ => ⟨S16x16x2x4x128x384, .f32⟩
  | .hbm, ⟨27, _⟩ => ⟨S16x16x2x4x128x384, .f32⟩
  | .hbm, ⟨28, _⟩ => ⟨S16, .i32⟩
  | .hbm, ⟨29, _⟩ => ⟨S16x1, .i32⟩
  | .hbm, ⟨30, _⟩ => ⟨S_, .i32⟩
  | .hbm, ⟨31, _⟩ => ⟨S16x1, .i32⟩
  | .hbm, ⟨32, _⟩ => ⟨S16x1, .i32⟩
  | .hbm, ⟨33, _⟩ => ⟨S128, .i32⟩
  | .hbm, ⟨34, _⟩ => ⟨S1x128, .i32⟩
  | .hbm, ⟨35, _⟩ => ⟨S16x128, .i32⟩
  | .hbm, ⟨36, _⟩ => ⟨S16x128, .i32⟩
  | .hbm, ⟨37, _⟩ => ⟨S16x128, .i32⟩
  | .hbm, ⟨38, _⟩ => ⟨S_, .i32⟩
  | .hbm, ⟨39, _⟩ => ⟨S16x1, .i32⟩
  | .hbm, ⟨40, _⟩ => ⟨S16x1, .i32⟩
  | .hbm, ⟨41, _⟩ => ⟨S_, .i32⟩
  | .hbm, ⟨42, _⟩ => ⟨S16x1, .i32⟩
  | .hbm, ⟨43, _⟩ => ⟨S16x1, .i32⟩
  | .hbm, ⟨44, _⟩ => ⟨S384, .i32⟩
  | .hbm, ⟨45, _⟩ => ⟨S1x384, .i32⟩
  | .hbm, ⟨46, _⟩ => ⟨S16x384, .i32⟩
  | .hbm, ⟨47, _⟩ => ⟨S16x384, .i32⟩
  | .hbm, ⟨48, _⟩ => ⟨S16x384, .i32⟩
  | .hbm, ⟨49, _⟩ => ⟨S16x1x384, .i32⟩
  | .hbm, ⟨50, _⟩ => ⟨S16x128x1, .i32⟩
  | .hbm, ⟨51, _⟩ => ⟨S16x128x384, .i32⟩
  | .hbm, ⟨52, _⟩ => ⟨S16x128x384, .i32⟩
  | .hbm, ⟨53, _⟩ => ⟨S16x128x384, .i32⟩
  | .hbm, ⟨54, _⟩ => ⟨S16x128x384, .i32⟩
  | .hbm, ⟨55, _⟩ => ⟨S_, .i32⟩
  | .hbm, ⟨56, _⟩ => ⟨S16x128x384, .i32⟩
  | .hbm, ⟨57, _⟩ => ⟨S16x128x384, .i1⟩
  | .hbm, ⟨58, _⟩ => ⟨S16x1x384, .i32⟩
  | .hbm, ⟨59, _⟩ => ⟨S_, .i32⟩
  | .hbm, ⟨60, _⟩ => ⟨S16x1x384, .i32⟩
  | .hbm, ⟨61, _⟩ => ⟨S16x1x384, .i1⟩
  | .hbm, ⟨62, _⟩ => ⟨S16x128x384, .i1⟩
  | .hbm, ⟨63, _⟩ => ⟨S16x128x384, .i1⟩
  | .hbm, ⟨64, _⟩ => ⟨S16x1x384, .i32⟩
  | .hbm, ⟨65, _⟩ => ⟨S_, .i32⟩
  | .hbm, ⟨66, _⟩ => ⟨S16x1x384, .i32⟩
  | .hbm, ⟨67, _⟩ => ⟨S16x1x384, .i1⟩
  | .hbm, ⟨68, _⟩ => ⟨S16x128x384, .i1⟩
  | .hbm, ⟨69, _⟩ => ⟨S16x128x384, .i1⟩
  | .hbm, ⟨70, _⟩ => ⟨S1x16x1x1x128x384, .i1⟩
  | .hbm, ⟨71, _⟩ => ⟨S_, .f32⟩
  | .hbm, ⟨72, _⟩ => ⟨S_, .f32⟩
  | .hbm, ⟨73, _⟩ => ⟨S16x16x2x4x128x384, .i1⟩
  | .hbm, ⟨74, _⟩ => ⟨S16x16x2x4x128x384, .f32⟩
  | .hbm, ⟨75, _⟩ => ⟨S16x16x2x4x128x384, .f32⟩
  | .hbm, ⟨76, _⟩ => ⟨S1x1x2x4x1x1, .f32⟩
  | .hbm, ⟨77, _⟩ => ⟨S16x16x2x4x128x1, .f32⟩
  | .hbm, ⟨78, _⟩ => ⟨S16x16x2x4x128x385, .f32⟩
  | .hbm, ⟨79, _⟩ => ⟨S_, .f32⟩
  | .hbm, ⟨80, _⟩ => ⟨S16x16x2x4x128, .f32⟩
  | .hbm, ⟨81, _⟩ => ⟨S_, .f32⟩
  | .hbm, ⟨82, _⟩ => ⟨S16x16x2x4x128, .f32⟩
  | .hbm, ⟨83, _⟩ => ⟨S16x16x2x4x128, .f32⟩
  | .hbm, ⟨84, _⟩ => ⟨S16x16x2x4x128x1, .f32⟩
  | .hbm, ⟨85, _⟩ => ⟨S16x16x2x4x128x385, .f32⟩
  | .hbm, ⟨86, _⟩ => ⟨S16x16x2x4x128x385, .f32⟩
  | .hbm, ⟨87, _⟩ => ⟨S16x16x2x4x128x385, .f32⟩
  | .hbm, ⟨88, _⟩ => ⟨S_, .f32⟩
  | .hbm, ⟨89, _⟩ => ⟨S16x16x2x4x128, .f32⟩
  | .hbm, ⟨90, _⟩ => ⟨S16x16x2x4x128x1, .f32⟩
  | .hbm, ⟨91, _⟩ => ⟨S16x16x2x4x128x385, .f32⟩
  | .hbm, ⟨92, _⟩ => ⟨S16x16x2x4x128x385, .f32⟩
  | .hbm, ⟨93, _⟩ => ⟨S16x16x2x4x128x384, .f32⟩
  | .hbm, ⟨94, _⟩ => ⟨S16x16x2x64x4x128, .f32⟩
  | .hbm, ⟨95, _⟩ => ⟨S16x16x128x2x4x64, .f32⟩
  | .hbm, ⟨96, _⟩ => ⟨S32768x512, .f32⟩
  | .hbm, ⟨97, _⟩ => ⟨S32768x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_2 : Ref sig .tc := ⟨.hbm, 38, rfl⟩
abbrev main_v28 : Ref sig .tc := ⟨.hbm, 39, rfl⟩
abbrev main_v29 : Ref sig .tc := ⟨.hbm, 40, rfl⟩
abbrev main_c_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== Proof.Sums.lean ====
/- Sums over a long axis taken piece by piece, and the root-mean-square scaling both the kernels and the
   references apply. -/
module

public import Idealize.ShloMosaic.Lib.Pointwise

@[expose] public section

noncomputable section

open Idealize.ShloMosaic

namespace Cert.Sums

/-- A sum over `a + b` indices is the sum over the first `a` plus the sum over the rest. -/
theorem split (a b n : ℕ) (h : a + b = n) (f : Fin n → EReal) :
    ∑ k, f k = (∑ k : Fin a, f ⟨k, by omega⟩) + ∑ k : Fin b, f ⟨a + k, by omega⟩ := by
  subst h
  rw [Fin.sum_univ_add]
  rfl

/-- Four equal pieces. -/
theorem split4 (a n : ℕ) (h : a * 4 = n) (f : Fin n → EReal) :
    ∑ k, f k = (∑ k : Fin a, f ⟨k, by omega⟩) + (∑ k : Fin a, f ⟨a + k, by omega⟩)
      + (∑ k : Fin a, f ⟨a * 2 + k, by omega⟩) + ∑ k : Fin a, f ⟨a * 3 + k, by omega⟩ := by
  rw [split (a * 3) a n (by omega) f, split (a * 2) a (a * 3) (by omega), split a a (a * 2) (by omega)]

/-- The number added to the mean square. -/
def eps : EReal := Ideal.ofBits .f32 897988541#32

/-- One entry of a row scaled by the inverse root of its mean square and by a weight. -/
def rms {n : ℕ} (N : EReal) (f w : Fin n → EReal) (k : Fin n) : EReal :=
  f k * Ideal.rsqrt (Ideal.div (∑ x, f x * f x) N + eps) * w k

end Cert.Sums

end
-- ==== Proof.OutValue.lean ====
/- What the output projection and the feed-forward block leave: one row of the result from one row of each
   operand, and the kernel's array as that row function. -/
module

public import proofs.«01_k».proof.Proof.Gen.OutIdeal.Value
public import proofs.«01_k».proof.Proof.Sums
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutRow

open Cert.Sums

/-- The mean's divisor for a group of 512 lanes, and for a row of 1024. -/
def n512 : EReal := Ideal.ofBits .f32 1140850688#32
def n1024 : EReal := Ideal.ofBits .f32 1149239296#32

/-- The row after the mixers' outputs are projected and added. -/
def mixed (x : Fin 1024 → EReal) (a xa : Fin 512 → EReal) (y w : Fin 1024 → EReal)
    (W : Fin 2048 → Fin 1024 → EReal) (j : Fin 1024) : EReal :=
  x j + ((∑ k : Fin 512, a k * W ⟨k, by omega⟩ j) + (∑ k : Fin 512, xa k * W ⟨1536 + k, by omega⟩ j)
    + (∑ k : Fin 512, rms n512 (fun k : Fin 512 => y ⟨k, by omega⟩) (fun k => w ⟨k, by omega⟩) k * W ⟨512 + k, by omega⟩ j)
    + ∑ k : Fin 512, rms n512 (fun k : Fin 512 => y ⟨512 + k, by omega⟩) (fun k => w ⟨512 + k, by omega⟩) k
        * W ⟨1024 + k, by omega⟩ j)

/-- A hidden unit: the squared positive part of the normalized row's product with a column. -/
def unit (h : Fin 1024 → EReal) (U : Fin 1024 → Fin 4096 → EReal) (k : Fin 4096) : EReal :=
  max (∑ i, h i * U i k) 0 * max (∑ i, h i * U i k) 0

/-- The row of the result, from the mixed row. -/
def mlp (z nw : Fin 1024 → EReal) (U : Fin 1024 → Fin 4096 → EReal) (D : Fin 4096 → Fin 1024 → EReal)
    (j : Fin 1024) : EReal :=
  z j + ∑ k, unit (rms n1024 z nw) U k * D k j

end Cert.OutRow

namespace Cert.OutIdeal.Closed
open Cert.OutIdeal Cert.OutIdeal.Gen Cert.Sums Cert.OutRow

section blocks
variable (x0 : Vec Ideal S512x1024 .f32) (x1 : Vec Ideal S512x512 .bf16) (x2 : Vec Ideal S512x1024 .bf16)
  (x3 : Vec Ideal S512x1024 .bf16) (x4 : Vec Ideal S512x512 .bf16) (x5 : Vec Ideal S2048x1024 .bf16)
  (x6 : Vec Ideal S1x1024 .f32) (x7 : Vec Ideal S1x1024 .f32) (x8 : Vec Ideal S1024x4096 .bf16)
  (x9 : Vec Ideal S4096x1024 .bf16)

/-- The mixed row `r` of a block. -/
def zrow (r : Fin 512) : Fin 1024 → EReal :=
  mixed (fun k => x0 (ix2 r k)) (fun k => x1 (ix2 r k)) (fun k => x4 (ix2 r k))
    (fun k => x2 (ix2 r k) * x3 (ix2 r k)) (fun k => x6 (ix2 0 k)) (fun k j => x5 (ix2 k j))

theorem ld0 : View.ld x0 r0_0 = x0 := by
  funext i
  idx_vars i
  pointwise

theorem ld8 : View.ld x7 r0_8 = x7 := by
  funext i
  idx_vars i
  pointwise
  rw [Subsingleton.elim i0 0]

theorem pay5_at (r : Fin 512) (j : Fin 1024) :
    k0_pay5 (k0_pay10 x0 x1 x2 x3 x4 x5 x6 x7 x8 x9) (k0_pay11 x0 x1 x2 x3 x4 x5 x6 x7 x8 x9)
      (k0_pay12 x0 x1 x2 x3 x4 x5 x6 x7 x8 x9) (View.ld x6 r0_6) (View.ld x5 r0_7) x0 (ix2 r j)
    = zrow x0 x1 x2 x3 x4 x5 x6 r j := by
  pointwise [k0_pay5, k0_pay10, k0_pay11, k0_pay12, k0_pay2, k0_pay3, k0_pay4]
  simp only [zrow, mixed, rms, eps, n512]

theorem pay13_at (r : Fin 512) (j : Fin 1024) :
    k0_pay13 x0 x1 x2 x3 x4 x5 x6 x7 x8 x9 (ix2 r j)
    = rms n1024 (zrow x0 x1 x2 x3 x4 x5 x6 r) (fun k => x7 (ix2 0 k)) j := by
  unfold k0_pay13
  rw [ld0, ld8]
  pointwise [k0_pay6]
  simp only [pay5_at, rms, eps, n1024]

theorem block_at (r : Fin 512) (j : Fin 1024) :
    out0_10 x0 x1 x2 x3 x4 x5 x6 x7 x8 x9 (ix2 r j)
    = mlp (zrow x0 x1 x2 x3 x4 x5 x6 r) (fun k => x7 (ix2 0 k)) (fun i k => x8 (ix2 i k)) (fun k j => x9 (ix2 k j)) j := by
  have h7 : ∀ k, k0_pay7 (k0_pay10 x0 x1 x2 x3 x4 x5 x6 x7 x8 x9) (k0_pay11 x0 x1 x2 x3 x4 x5 x6 x7 x8 x9)
      (k0_pay12 x0 x1 x2 x3 x4 x5 x6 x7 x8 x9) (View.ld x6 r0_6) (View.ld x5 r0_7) x0
      x7 (View.ld x8 r0_9) (ix2 r k)
      = ∑ i, k0_pay13 x0 x1 x2 x3 x4 x5 x6 x7 x8 x9 (ix2 r i) * x8 (ix2 i ⟨k, by omega⟩) := by
    intro k
    unfold k0_pay13
    rw [ld0, ld8]
    pointwise [k0_pay7]
  rw [mlp, split4 1024 4096 rfl]
  frame_out
  pointwise [k0_pay1, k0_pay8, k0_pay9]
  simp only [h7, pay5_at, pay13_at, unit, add_assoc]

end blocks

variable (m : (ℓ : Loc nD τ sig) → Buf (Elt Ideal) ℓ)

/-- The windows' block indices. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![0, 0]
    ∧ win0_8.index t = ![0, 0] ∧ win0_9.index t = ![0, 0] ∧ win0_10.index t = ![t.val, 0] :=
  (by decide +kernel : ∀ t : Fin grid0.N, _)

end Cert.OutIdeal.Closed

namespace Cert.OutRow

/-- The result at row `n` of the flattened tokens, lane `j`, from the arrays. -/
def row (X : Cert.OutIdeal.S16x2048x1024.Idx → EReal) (A : Cert.OutIdeal.S16x2048x512.Idx → EReal)
    (Y Gt : Cert.OutIdeal.S16x2048x1024.Idx → EReal) (XA : Cert.OutIdeal.S16x2048x512.Idx → EReal)
    (W : Cert.OutIdeal.S2048x1024.Idx → EReal) (sw nw : Cert.OutIdeal.S1024.Idx → EReal)
    (U : Cert.OutIdeal.S1024x4096.Idx → EReal) (D : Cert.OutIdeal.S4096x1024.Idx → EReal)
    (b : Fin 16) (l : Fin 2048) (j : Fin 1024) : EReal :=
  mlp (mixed (fun k => X (ix3 b l k)) (fun k => A (ix3 b l k)) (fun k => XA (ix3 b l k))
      (fun k => Y (ix3 b l k) * Gt (ix3 b l k)) (fun k => sw (ix1 k)) (fun k j => W (ix2 k j)))
    (fun k => nw (ix1 k)) (fun i k => U (ix2 i k)) (fun k j => D (ix2 k j)) j

end Cert.OutRow

namespace Cert.OutIdeal.Closed
open Cert.OutIdeal Cert.OutIdeal.Gen Cert.Sums Cert.OutRow
variable (m : (ℓ : Loc nD τ sig) → Buf (Elt Ideal) ℓ)

theorem read0 (c : Dev nD) (t : Fin cfg0.N) (y : Fin 512) (k : Fin 1024) : iblk m c 0 t (ix2 y k)
    = m ((c : Thread nD τ).loc main_arg0) (ix3 ⟨(t.val * 512 + y) / 2048, by have : t.val < 64 := t.isLt; omega⟩
      ⟨(t.val * 512 + y) % 2048, by omega⟩ k) := by
  have hr : iblk m c 0 t (ix2 y k) = V m c main_v0 (ix2 ⟨t.val * 512 + y, by have : t.val < 64 := t.isLt; omega⟩ k) := by
    blk_ext [iblk, idx t]
  rw [hr]
  entry_read
  pointwise

theorem read1 (c : Dev nD) (t : Fin cfg0.N) (y : Fin 512) (k : Fin 512) : iblk m c 1 t (ix2 y k)
    = m ((c : Thread nD τ).loc main_arg1) (ix3 ⟨(t.val * 512 + y) / 2048, by have : t.val < 64 := t.isLt; omega⟩
      ⟨(t.val * 512 + y) % 2048, by omega⟩ k) := by
  have hr : iblk m c 1 t (ix2 y k) = V m c main_v2 (ix2 ⟨t.val * 512 + y, by have : t.val < 64 := t.isLt; omega⟩ k) := by
    blk_ext [iblk, idx t]
  rw [hr]
  entry_read
  pointwise

theorem read2 (c : Dev nD) (t : Fin cfg0.N) (y : Fin 512) (k : Fin 1024) : iblk m c 2 t (ix2 y k)
    = m ((c : Thread nD τ).loc main_arg2) (ix3 ⟨(t.val * 512 + y) / 2048, by have : t.val < 64 := t.isLt; omega⟩
      ⟨(t.val * 512 + y) % 2048, by omega⟩ k) := by
  have hr : iblk m c 2 t (ix2 y k) = V m c main_v4 (ix2 ⟨t.val * 512 + y, by have : t.val < 64 := t.isLt; omega⟩ k) := by
    blk_ext [iblk, idx t]
  rw [hr]
  entry_read
  pointwise

theorem read3 (c : Dev nD) (t : Fin cfg0.N) (y : Fin 512) (k : Fin 1024) : iblk m c 3 t (ix2 y k)
    = m ((c : Thread nD τ).loc main_arg3) (ix3 ⟨(t.val * 512 + y) / 2048, by have : t.val < 64 := t.isLt; omega⟩
      ⟨(t.val * 512 + y) % 2048, by omega⟩ k) := by
  have hr : iblk m c 3 t (ix2 y k) = V m c main_v6 (ix2 ⟨t.val * 512 + y, by have : t.val < 64 := t.isLt; omega⟩ k) := by
    blk_ext [iblk, idx t]
  rw [hr]
  entry_read
  pointwise

theorem read4 (c : Dev nD) (t : Fin cfg0.N) (y : Fin 512) (k : Fin 512) : iblk m c 4 t (ix2 y k)
    = m ((c : Thread nD τ).loc main_arg4) (ix3 ⟨(t.val * 512 + y) / 2048, by have : t.val < 64 := t.isLt; omega⟩
      ⟨(t.val * 512 + y) % 2048, by omega⟩ k) := by
  have hr : iblk m c 4 t (ix2 y k) = V m c main_v8 (ix2 ⟨t.val * 512 + y, by have : t.val < 64 := t.isLt; omega⟩ k) := by
    blk_ext [iblk, idx t]
  rw [hr]
  entry_read
  pointwise

theorem final (c : Dev nD) : (dats m 0 c).arrAt 10 (cfgs 0).N
    = fun i : S32768x1024.Idx => row (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9))
      ⟨(i 0).val / 2048, by have := (i 0).isLt; change (i 0).val < 32768 at this; omega⟩ ⟨(i 0).val % 2048, by omega⟩ (i 1) := by
  refine (dats m 0 c).arrAt_eq_of_covers 10 _ (by decide +kernel) fun t _ y => ?_
  blk_simp [idx t]
  rw [after0_10]
  idx_vars y
  rw [block_at]
  simp only [row, zrow]
  have e1 : ((View.whole main_v14).slice (win0_10.rect t)).emb (ix2 y0 y1) 1 = y1 := by
    apply Fin.ext
    blk_simp [idx t]
  have ht : t.val < 64 := t.isLt
  simp only [e1]
  congr 1
  · congr 1 <;> funext k
    · exact read0 m c t y0 k
    · exact read1 m c t y0 k
    · exact read4 m c t y0 k
    · rw [read2 m c t y0 k, read3 m c t y0 k]
    · blk_point [iblk, V, idx t]
    · funext j
      blk_point [iblk, V, idx t]
  · funext k
    blk_point [iblk, V, idx t]
  · funext i k
    blk_point [iblk, V, idx t]
  · funext i k
    blk_point [iblk, V, idx t]

end Cert.OutIdeal.Closed
end
-- ==== Proof.OutRef.lean ====
/- The reference's output projection and feed-forward block, read at an index: the same row function. -/
module

public import proofs.«01_k».proof.Proof.OutValue
public import proofs.«01_k».proof.Proof.Gen.OutRefIdeal.Read

@[expose] public section

set_option maxRecDepth 16384

noncomputable section

open Idealize.ShloMosaic Idealize.ShloMosaic.TcCoe Idealize.SL.Sem

namespace Cert.OutRefIdeal.Closed
open Cert.OutRefIdeal Cert.OutRefIdeal.Gen Cert.OutRefIdeal.Read Cert.Sums Cert.OutRow

variable (X : (⟨S16x2048x1024, .f32⟩ : BufTy).Contents (Elt Ideal)) (A : (⟨S16x2048x512, .f32⟩ : BufTy).Contents (Elt Ideal))
  (Y Gt : (⟨S16x2048x1024, .f32⟩ : BufTy).Contents (Elt Ideal)) (XA : (⟨S16x2048x512, .f32⟩ : BufTy).Contents (Elt Ideal))
  (W : (⟨S2048x1024, .f32⟩ : BufTy).Contents (Elt Ideal)) (sw nw : (⟨S1024, .f32⟩ : BufTy).Contents (Elt Ideal))
  (U : (⟨S1024x4096, .f32⟩ : BufTy).Contents (Elt Ideal)) (D : (⟨S4096x1024, .f32⟩ : BufTy).Contents (Elt Ideal))

def zr (b : Fin 16) (l : Fin 2048) : Fin 1024 → EReal :=
  mixed (fun k => X (ix3 b l k)) (fun k => A (ix3 b l k)) (fun k => XA (ix3 b l k))
      (fun k => Y (ix3 b l k) * Gt (ix3 b l k)) (fun k => sw (ix1 k)) (fun k j => W (ix2 k j))

theorem gated_lo (b : Fin 16) (l : Fin 2048) (x : Fin 512) :
    val_main_v16 (F := Ideal) Y Gt sw (ix3 b l ⟨x, by omega⟩)
      = rms n512 (fun k : Fin 512 => Y (ix3 b l ⟨k, by omega⟩) * Gt (ix3 b l ⟨k, by omega⟩)) (fun k => sw (ix1 ⟨k, by omega⟩)) x := by
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  have h1 : (x : ℕ) / 512 = 0 := by omega
  have h2 : (x : ℕ) % 512 = x := by omega
  simp only [h1, h2, Nat.zero_mul, Nat.zero_add, rms, n512, eps]

theorem gated_hi (b : Fin 16) (l : Fin 2048) (x : Fin 512) :
    val_main_v16 (F := Ideal) Y Gt sw (ix3 b l ⟨512 + x, by omega⟩)
      = rms n512 (fun k : Fin 512 => Y (ix3 b l ⟨512 + k, by omega⟩) * Gt (ix3 b l ⟨512 + k, by omega⟩))
        (fun k => sw (ix1 ⟨512 + k, by omega⟩)) x := by
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  have h1 : (512 + (x : ℕ)) / 512 = 1 := by omega
  have h2 : (512 + (x : ℕ)) % 512 = x := by omega
  simp only [h1, h2, Nat.one_mul, rms, n512, eps]

theorem join0 (b : Fin 16) (l : Fin 2048) (x : Fin 512) :
    val_main_v17 (F := Ideal) A Y Gt XA sw (ix3 b l ⟨x, by omega⟩) = A (ix3 b l x) := by
  pointwise [val_main_v17]

theorem join1 (b : Fin 16) (l : Fin 2048) (x : Fin 512) :
    val_main_v17 (F := Ideal) A Y Gt XA sw (ix3 b l ⟨512 + x, by omega⟩)
      = val_main_v16 (F := Ideal) Y Gt sw (ix3 b l ⟨x, by omega⟩) := by
  pointwise [val_main_v17]
  rw [dif_pos (by omega)]

theorem join2 (b : Fin 16) (l : Fin 2048) (x : Fin 512) :
    val_main_v17 (F := Ideal) A Y Gt XA sw (ix3 b l ⟨1024 + x, by omega⟩)
      = val_main_v16 (F := Ideal) Y Gt sw (ix3 b l ⟨512 + x, by omega⟩) := by
  pointwise [val_main_v17]
  rw [dif_neg (by omega), dif_pos (by omega)]
  congr 3
  omega

theorem join3 (b : Fin 16) (l : Fin 2048) (x : Fin 512) :
    val_main_v17 (F := Ideal) A Y Gt XA sw (ix3 b l ⟨1536 + x, by omega⟩) = XA (ix3 b l x) := by
  pointwise [val_main_v17]
  rw [dif_neg (by omega), dif_neg (by omega)]
  congr 3
  omega

theorem mix_at (b : Fin 16) (l : Fin 2048) (j : Fin 1024) :
    val_main_v19 (F := Ideal) X A Y Gt XA W sw (ix3 b l j) = zr X A Y Gt XA W sw b l j := by
  pointwise [val_main_v19, val_main_v18]
  rw [split4 512 2048 rfl]
  simp only [Nat.reduceMul, join0, join1, join2, join3, gated_lo, gated_hi, zr, mixed]
  congr 1
  simp only [add_assoc]
  congr 1
  rw [← add_assoc, add_comm]

theorem norm_at (b : Fin 16) (l : Fin 2048) (j : Fin 1024) :
    val_main_v32 (F := Ideal) X A Y Gt XA W sw nw (ix3 b l j)
      = rms n1024 (zr X A Y Gt XA W sw b l) (fun k => nw (ix1 k)) j := by
  pointwise [val_main_v32, val_main_v31, val_main_v30, val_main_v29, val_main_v28, val_main_v27, val_main_v26, val_main_v25,
    val_main_v24, val_main_v23, val_main_v22, val_main_v21, val_main_v20, val_main_cst_2, val_main_cst_3, val_main_cst_4]
  simp only [mix_at, rms, n1024, eps]

theorem ref_at (b : Fin 16) (l : Fin 2048) (j : Fin 1024) :
    val_main_v38 (F := Ideal) X A Y Gt XA W sw nw U D (ix3 b l j) = row X A Y Gt XA W sw nw U D b l j := by
  pointwise [val_main_v38, val_main_v37, val_main_v36, val_main_v35, val_main_v34, val_main_v33, val_main_cst_5]
  simp only [mix_at, norm_at, row, mlp, unit, zr]

theorem ref_eq : val_main_v39 (F := Ideal) X A Y Gt XA W sw nw U D
    = fun i : S32768x1024.Idx => row X A Y Gt XA W sw nw U D
      ⟨(i 0).val / 2048, by have := (i 0).isLt; change (i 0).val < 32768 at this; omega⟩ ⟨(i 0).val % 2048, by omega⟩ (i 1) := by
  funext i
  idx_vars i
  pointwise [val_main_v39]
  exact ref_at X A Y Gt XA W sw nw U D _ _ _

end Cert.OutRefIdeal.Closed
end
-- ==== Proof.OutClaim.lean ====
module

public import proofs.«01_k».proof.Defs
public import proofs.«01_k».proof.Proof.OutValue
public import proofs.«01_k».proof.Proof.OutRef
public import Idealize.ShloMosaic.Lib.Claim

/-! The value claim of the output projection, the feed-forward block and their residual sums: the array the call leaves
and the reference's are both `Cert.OutRow.row` of the arguments. -/

@[expose] public section
set_option maxRecDepth 16384
noncomputable section

open Idealize.ShloMosaic Idealize.SL.Sem

namespace Cert.OutClaim

theorem algebraic : Cert.algebraic_OutIdeal_OutRefIdeal (hOutIdeal := Cert.OutIdeal.Gen.facts) (hOutRefIdeal := Cert.OutRefIdeal.Gen.facts) := by
  pair_intro
  · run_from Cert.OutIdeal.Gen.run_main m g
  · run_from Cert.OutRefIdeal.Value.run m' g'
    obtain ⟨h0, h1, h2, h3, h4, h5, h6, h7, h8, h9⟩ := hagree c
    rw [Cert.OutRefIdeal.Read.val_main_v39_eq, Cert.OutRefIdeal.Closed.ref_eq, h0, h1, h2, h3, h4, h5, h6, h7, h8, h9]
    exact (Cert.OutIdeal.Closed.final m c).symm

end Cert.OutClaim
end
-- ==== Proof.Soft.lean ====
/- Attention over extended reals: the exponentials to the base two of scores divided by log 2 are the
   exponentials of the scores, and dividing a weighted sum is weighting by quotients. -/
module

public import proofs.«01_k».proof.Proof.Sums
public import Idealize.ShloMosaic.Lib.Pointwise
public import Idealize.ShloMosaic.Lib.Claim
public import Idealize.ShloMosaic.Lib.ReduceAll

@[expose] public section

noncomputable section

open Idealize.ShloMosaic Idealize.ShloMosaic.TcCoe Idealize.SL.Sem

namespace Cert.Soft

/-- A value that is a real number. -/
def Fine (x : EReal) : Prop := ∃ r : ℝ, x = (r : EReal)

theorem Fine.add {x y : EReal} : Fine x → Fine y → Fine (x + y) := by
  rintro ⟨a, rfl⟩ ⟨b, rfl⟩
  exact ⟨a + b, (EReal.coe_add a b).symm⟩

theorem Fine.mul {x y : EReal} : Fine x → Fine y → Fine (x * y) := by
  rintro ⟨a, rfl⟩ ⟨b, rfl⟩
  exact ⟨a * b, (EReal.coe_mul a b).symm⟩

theorem Fine.ne_top {x : EReal} : Fine x → x ≠ ⊤ := by
  rintro ⟨a, rfl⟩
  exact EReal.coe_ne_top a

theorem Fine.ne_bot {x : EReal} : Fine x → x ≠ ⊥ := by
  rintro ⟨a, rfl⟩
  exact EReal.coe_ne_bot a

theorem fine_of {x : EReal} (ht : x ≠ ⊤) (hb : x ≠ ⊥) : Fine x := ⟨x.toReal, (EReal.coe_toReal ht hb).symm⟩

theorem fine_sum {ι : Type*} (s : Finset ι) (f : ι → EReal) (h : ∀ i ∈ s, Fine (f i)) : Fine (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The factor between natural and binary exponents. -/
def L : ℝ := (Real.log 2)⁻¹

theorem L_pos : 0 < L := inv_pos.mpr (Real.log_pos (by norm_num))

/-- A nonnegative real factor moves into a sum. -/
theorem sum_mul {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- Dividing by the logarithm of two, as the programs compute it. -/
theorem div_log (x : EReal) : Ideal.div x (Ideal.log (Ideal.ofBits .f32 1073741824#32)) = x * (L : EReal) := by
  have h2 : Ideal.ofBits .f32 1073741824#32 = ((2 : ℝ) : EReal) := by
    simp [Ideal.ofBits, Ideal.ieee, -EReal.coe_mul]
    try norm_num
  have hl : Real.log 2 ≠ 0 := (Real.log_pos (by norm_num)).ne'
  rw [h2, Ideal.log_coe, if_neg (by norm_num), Ideal.div_coe hl, L, one_div]

/-- A product of scaled queries with keys is the scaled product. -/
theorem score {n : ℕ} (q k : Fin n → EReal) {c : ℝ} (hc : 0 ≤ c) :
    ∑ d, (q d * (c : EReal) * (L : EReal)) * k d = (∑ d, q d * k d) * (c : EReal) * (L : EReal) := by
  rw [sum_mul _ _ hc, sum_mul _ _ L_pos.le]
  refine Finset.sum_congr rfl fun d _ => ?_
  rw [mul_right_comm (q d) (k d), mul_right_comm (q d * (c : EReal)) (k d)]

/-- The binary exponential of a scaled difference is the natural exponential of the difference. -/
theorem exp2_eq {s M : EReal} (hs : s ≠ ⊤) (hM : Fine M) :
    Ideal.exp2 (s * (L : EReal) - M * (L : EReal)) = Ideal.exp (s - M) := by
  obtain ⟨μ, rfl⟩ := hM
  induction s using EReal.rec with
  | top => exact absurd rfl hs
  | bot =>
    rw [EReal.bot_mul_of_pos (EReal.coe_pos.mpr L_pos), ← EReal.coe_mul, EReal.bot_sub, EReal.bot_sub]
    rfl
  | coe r =>
    rw [← EReal.coe_mul, ← EReal.coe_mul, ← EReal.coe_sub, ← EReal.coe_sub, Ideal.exp2_coe, Ideal.exp_coe]
    congr 1
    show (2 : ℝ) ^ (r * L - μ * L) = _
    rw [Real.rpow_def_of_pos (by norm_num), ← sub_mul, L, mul_left_comm,
      mul_inv_cancel₀ (Real.log_pos (by norm_num : (1 : ℝ) < 2)).ne', mul_one]

/-- The largest scaled score is the scaled largest score. -/
theorem fold_mul {ι : Type*} (t : Finset ι) (s : ι → EReal) :
    Finset.fold max ⊥ (fun a => s a * (L : EReal)) t = Finset.fold max ⊥ s t * (L : EReal) := by
  have hm : Monotone fun x : EReal => x * (L : EReal) := fun x y h =>
    mul_le_mul_of_nonneg_right h (EReal.coe_nonneg.mpr L_pos.le)
  have h := Finset.fold_hom (op := max) (op' := max) (s := t) (f := s) (b := (⊥ : EReal))
    (m := fun x : EReal => x * (L : EReal)) (fun x y => hm.map_max)
  rw [← h]
  simp only [EReal.bot_mul_of_pos (EReal.coe_pos.mpr L_pos)]

theorem fold_ne_top {ι : Type*} (t : Finset ι) (s : ι → EReal) (hs : ∀ a ∈ t, s a ≠ ⊤) : Finset.fold max ⊥ s t ≠ ⊤ := by
  rw [← lt_top_iff_ne_top, Finset.fold_max_lt]
  exact ⟨bot_lt_top, fun a ha => lt_top_iff_ne_top.mpr (hs a ha)⟩

theorem le_fold {ι : Type*} (t : Finset ι) (s : ι → EReal) {a : ι} (ha : a ∈ t) : s a ≤ Finset.fold max ⊥ s t :=
  Finset.le_fold_max (s a) |>.mpr (Or.inr ⟨a, ha, le_rfl⟩)

/-- An exponential of a difference from a real number is a nonnegative real. -/
theorem exp_fine {s M : EReal} (hs : s ≠ ⊤) (hM : Fine M) : ∃ r : ℝ, 0 ≤ r ∧ Ideal.exp (s - M) = (r : EReal) := by
  obtain ⟨μ, rfl⟩ := hM
  induction s using EReal.rec with
  | top => exact absurd rfl hs
  | bot => exact ⟨0, le_rfl, by rw [EReal.bot_sub]; rfl⟩
  | coe r => exact ⟨Real.exp (r - μ), (Real.exp_pos _).le, by rw [← EReal.coe_sub, Ideal.exp_coe]⟩

theorem exp_pos {s M : EReal} (hs : Fine s) (hM : Fine M) : ∃ r : ℝ, 0 < r ∧ Ideal.exp (s - M) = (r : EReal) := by
  obtain ⟨μ, rfl⟩ := hM
  obtain ⟨r, rfl⟩ := hs
  exact ⟨Real.exp (r - μ), Real.exp_pos _, by rw [← EReal.coe_sub, Ideal.exp_coe]⟩

/-- A weighted sum over a positive real is the sum of the values by the quotients. -/
theorem quot {n : ℕ} (p v : Fin n → EReal) {D : EReal} (hD : ∃ r : ℝ, 0 < r ∧ D = (r : EReal)) :
    Ideal.div (∑ a, p a * v a) D = ∑ a, v a * Ideal.div (p a) D := by
  obtain ⟨r, hr, rfl⟩ := hD
  rw [Ideal.div_coe hr.ne', sum_mul _ _ (one_div_pos.mpr hr).le]
  refine Finset.sum_congr rfl fun a _ => ?_
  rw [Ideal.div_coe hr.ne', mul_comm (p a), mul_assoc]

/-- A sum of nonnegative reals one of which is positive is a positive real. -/
theorem sum_pos {ι : Type*} (t : Finset ι) (p : ι → EReal) (h : ∀ a ∈ t, ∃ r : ℝ, 0 ≤ r ∧ p a = (r : EReal)) {b : ι} (hb : b ∈ t)
    (hp : p b ≠ 0) : ∃ r : ℝ, 0 < r ∧ ∑ a ∈ t, p a = (r : EReal) := by
  obtain ⟨r, hr⟩ := fine_sum t p fun a ha => (h a ha).imp fun _ h => h.2
  refine ⟨r, ?_, hr⟩
  have h0 : ∀ a ∈ t, 0 ≤ p a := fun a ha => by
    obtain ⟨x, hx, he⟩ := h a ha
    rw [he]
    exact EReal.coe_nonneg.mpr hx
  have h1 : 0 < p b := lt_of_le_of_ne (h0 b hb) (Ne.symm hp)
  have h2 := Finset.single_le_sum h0 hb
  rw [hr] at h2
  exact EReal.coe_pos.mp (lt_of_lt_of_le h1 h2)

/-- A normalised row times its inverse root mean square is real, whatever the row holds. -/
theorem unit_fine {n : ℕ} (f : Fin n → EReal) {N e : ℝ} (hN : 0 < N) (he : 0 < e) (k : Fin n) :
    Fine (f k * Ideal.rsqrt (Ideal.div (∑ i, f i * f i) (N : EReal) + (e : EReal))) := by
  have hsq : ∀ x : EReal, 0 ≤ x * x := fun x => by
    induction x using EReal.rec with
    | top => simp
    | bot => simp
    | coe r => rw [← EReal.coe_mul]; exact EReal.coe_nonneg.mpr (mul_self_nonneg r)
  rw [Ideal.div_coe hN.ne']
  by_cases h : ∀ i, Fine (f i)
  · obtain ⟨S, hS⟩ := fine_sum Finset.univ (fun i => f i * f i) fun i _ => (h i).mul (h i)
    have h0 : 0 ≤ S := by
      have := Finset.sum_nonneg fun i (_ : i ∈ Finset.univ) => hsq (f i)
      rw [hS] at this
      exact EReal.coe_nonneg.mp this
    rw [hS, ← EReal.coe_mul, ← EReal.coe_add, Ideal.rsqrt_coe]
    have hp : 0 < S * (1 / N) + e := by positivity
    rw [if_neg hp.le.not_gt, if_neg hp.ne']
    exact (h k).mul ⟨_, rfl⟩
  · push Not at h
    obtain ⟨i, hi⟩ := h
    have ht : f i * f i = ⊤ := by
      by_cases h1 : f i = ⊤
      · rw [h1]; rfl
      · by_cases h2 : f i = ⊥
        · rw [h2]; rfl
        · exact absurd (fine_of h1 h2) hi
    have hs : ∑ i, f i * f i = ⊤ := by
      refine top_le_iff.mp ?_
      rw [← ht]
      exact Finset.single_le_sum (f := fun i => f i * f i) (fun i _ => hsq (f i)) (Finset.mem_univ i)
    rw [hs, EReal.top_mul_of_pos (EReal.coe_pos.mpr (one_div_pos.mpr hN)), EReal.top_add_coe, Ideal.rsqrt_top, mul_zero]
    exact ⟨0, rfl⟩

/-- The pattern a running maximum starts from is the least extended real. -/
theorem low_eq : Ideal.ofBits .f32 4286578688#32 = ⊥ := by
  simp [Ideal.ofBits, Ideal.ieee]

/-- The pattern of infinity. -/
theorem inf_eq : Ideal.ofBits .f32 2139095040#32 = ⊤ := by
  simp [Ideal.ofBits, Ideal.ieee]

/-- An array whose absolute values all compare below infinity holds real numbers. -/
theorem fine_all {s t u : Shape} {axes : List (Fin s.rank)} [Subsingleton t.Idx] (x c : FVec Ideal s .f32) (hc : ∀ i, c i = ⊤) (o : IVec u 1)
    (h : s.ReducesTo axes t) (hu : 0 < u.numel) (j : t.Idx)
    (e : Host.reduce IntOp.andi (cmpf .olt (Host.absf x) c) o h hu j = 1#1) (i : s.Idx) : Fine (x i) := by
  have := Host.reduce_andi_all _ _ h hu j e i
  simp only [pointwise, hc] at this
  have h2 : max (x i) (-(x i)) < ⊤ := by
    by_contra hn
    have hd : decide ((FloatOps.absf (F := Ideal) (x i) : EReal) < ⊤) = false := decide_eq_false hn
    rw [hd] at this
    exact absurd this (by decide)
  refine fine_of (fun ht => ?_) fun hb => ?_
  · rw [ht] at h2; simp at h2
  · rw [hb] at h2; simp at h2

end Cert.Soft
end
-- ==== Proof.XattnValue.lean ====
/- What the cross-attention call writes: every entry of its result as one row of attention over the
   memory's 256 positions, with the exponentials to the base two. -/
module

public import proofs.«01_k».proof.Proof.Gen.XattnIdeal.Value
public import proofs.«01_k».proof.Proof.Sums
public import proofs.«01_k».proof.Proof.Soft
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.XattnRow

open Cert.Sums Cert.Soft

/-- The number 1024, as the programs write it. -/
def n1024 : EReal := Ideal.ofBits .f32 1149239296#32

/-- The number 128, as the programs write it. -/
def n128 : EReal := Ideal.ofBits .f32 1124073472#32

/-- The value a running maximum starts from. -/
def low : EReal := Ideal.ofBits .f32 4286578688#32

/-- The scale of the scores, as the programs write it. -/
def sc : EReal := Ideal.ofBits .f32 1035273459#32

/-- One entry of the projection of a normalised memory row. -/
def proj (x w : Fin 1024 → EReal) (W : Fin 1024 → Fin 1024 → EReal) (e : Fin 1024) : EReal :=
  ∑ k, rms n1024 x w k * W k e

/-- One entry of a key: the 128 lanes from `o` on, normalised. -/
def key (p : Fin 1024 → EReal) (xw : Fin 128 → EReal) (o : ℕ) (ho : o + 128 ≤ 512) (d : Fin 128) : EReal :=
  rms n128 (fun d => p ⟨o + d.val, by omega⟩) xw d

/-- Attention with the quotient taken last and the exponentials to the base two. -/
def late {n : ℕ} (s v : Fin n → EReal) : EReal :=
  Ideal.div (∑ x, FloatOps.exp2 (F := Ideal) (φ := .f32) (s x - Finset.fold max low s Finset.univ) * v x)
    (∑ x, FloatOps.exp2 (F := Ideal) (φ := .f32) (s x - Finset.fold max low s Finset.univ))

/-- One entry of one head's result, from a row of queries. -/
def head (q : Fin 512 → EReal) (p : Fin 256 → Fin 1024 → EReal) (xw : Fin 128 → EReal) (o : ℕ) (ho : o + 128 ≤ 512)
    (e : Fin 128) : EReal :=
  late (fun a => ∑ d : Fin 128, q ⟨o + d.val, by omega⟩ * key (p a) xw o ho d) (fun a => p a ⟨512 + (o + e.val), by omega⟩)

end Cert.XattnRow

namespace Cert.XattnIdeal.Closed

open Cert.XattnIdeal Cert.XattnIdeal.Gen Cert.XattnRow Cert.Sums

section Payloads

variable (x1 : Vec Ideal S256x1024 .f32) (x2 : Vec Ideal S1x1024 .f32) (x3 : Vec Ideal S1024x1024 .bf16) (x4 : Vec Ideal S1x128 .f32)

/-- The projected memory of a block. -/
def kv (a : Fin 256) : Fin 1024 → EReal :=
  proj (fun k => x1 (ix2 a k)) (fun k => x2 (ix2 0 k)) (fun k e => x3 (ix2 k e))

theorem pay2_at (a : Fin 256) (e : Fin 1024) : k0_pay2 (F := Ideal) x1 x2 x3 (ix2 a e) = kv x1 x2 x3 a e := by
  simp only [kv, proj, rms, n1024, eps]
  pointwise [k0_pay2]

theorem pay3_at (a : Fin 256) (d : Fin 128) : k0_pay3 (F := Ideal) x1 x2 x3 x4 (ix2 a d)
    = key (kv x1 x2 x3 a) (fun k => x4 (ix2 0 k)) 0 (by omega) d := by
  simp only [key, rms, n128, eps, ← pay2_at]
  pointwise [k0_pay3]

theorem pay6_at (a : Fin 256) (d : Fin 128) : k0_pay6 (F := Ideal) (k0_pay4 x1 x2 x3) (k0_pay5 x1 x2 x3) x4 (ix2 a d)
    = key (kv x1 x2 x3 a) (fun k => x4 (ix2 0 k)) 128 (by omega) d := by
  simp only [key, rms, n128, eps, ← pay2_at]
  pointwise [k0_pay6, k0_pay5, k0_pay4]

theorem pay7_at (a : Fin 256) (d : Fin 128) : k0_pay7 (F := Ideal) (k0_pay2 x1 x2 x3) x4 (ix2 a d)
    = key (kv x1 x2 x3 a) (fun k => x4 (ix2 0 k)) 256 (by omega) d := by
  simp only [key, rms, n128, eps, ← pay2_at]
  pointwise [k0_pay7]

theorem pay10_at (a : Fin 256) (d : Fin 128) : k0_pay10 (F := Ideal) (k0_pay8 (k0_pay2 x1 x2 x3)) (k0_pay9 (k0_pay2 x1 x2 x3))
      (FloatOps.ofBits FTy.f32 897988541#32) x4 (ix2 a d)
    = key (kv x1 x2 x3 a) (fun k => x4 (ix2 0 k)) 384 (by omega) d := by
  simp only [key, rms, n128, eps, ← pay2_at]
  pointwise [k0_pay10, k0_pay9, k0_pay8]

theorem pay11_at (a : Fin 256) (d : Fin 512) : k0_pay11 (F := Ideal) (k0_pay2 x1 x2 x3) (ix2 a d)
    = kv x1 x2 x3 a ⟨512 + d.val, by omega⟩ := by
  simp only [← pay2_at]
  pointwise [k0_pay11]

end Payloads

section Tiles

variable (q : Vec Ideal S2048x128 .bf16) (k v : Vec Ideal S256x128 .bf16) (l : Fin 2048) (e : Fin 128)

theorem tile0 : k0_pay12 (F := Ideal) q k v (ix2 l e)
    = late (fun a => ∑ d, q (ix2 l d) * k (ix2 a d)) (fun a => v (ix2 a e)) := by
  simp only [late, low]
  pointwise [k0_pay12]

theorem tile1 : k0_pay16 (F := Ideal) (k0_pay14 q k) (k0_pay15 q k) v (ix2 l e)
    = late (fun a => ∑ d, q (ix2 l d) * k (ix2 a d)) (fun a => v (ix2 a e)) := by
  simp only [late, low]
  pointwise [k0_pay16, k0_pay15, k0_pay14, k0_pay13]

theorem tile2 : k0_pay17 (F := Ideal) q k v (ix2 l e)
    = late (fun a => ∑ d, q (ix2 l d) * k (ix2 a d)) (fun a => v (ix2 a e)) := by
  simp only [late, low]
  pointwise [k0_pay17]

theorem tile3 : k0_pay1 (F := Ideal) (k0_pay19 q k) (k0_pay20 q k) v (ix2 l e)
    = late (fun a => ∑ d, q (ix2 l d) * k (ix2 a d)) (fun a => v (ix2 a e)) := by
  simp only [late, low]
  pointwise [k0_pay1, k0_pay20, k0_pay19, k0_pay18]

end Tiles

section Pieces

variable (x0 : Vec Ideal S2048x512 .bf16) (x1 : Vec Ideal S256x1024 .f32) (x2 : Vec Ideal S1x1024 .f32) (x3 : Vec Ideal S1024x1024 .bf16)
  (x4 : Vec Ideal S1x128 .f32) (l : Fin 2048) (e : Fin 128)

theorem piece0 : k0_pay12 (F := Ideal) (View.ld x0 (Rect.unit ![0, 0] ![2048, 128] inb_S2048x512_S2048x128_0_0)) (k0_pay3 x1 x2 x3 x4) (View.ld (Val := Elt Ideal) (S := S256x512) (e' := .bf16) (k0_pay11 (F := Ideal) (k0_pay2 x1 x2 x3)) (Rect.unit ![0, 0] ![256, 128] inb_S256x512_S256x128_0_0)) (ix2 l e)
    = head (fun k => x0 (ix2 l k)) (kv x1 x2 x3) (fun k => x4 (ix2 0 k)) 0 (by omega) e := by
  rw [tile0]
  simp only [head, pay3_at]
  congr 1 <;> funext a
  · refine Finset.sum_congr rfl fun d _ => ?_
    congr 1
    pointwise
  · refine Eq.trans ?_ (pay11_at x1 x2 x3 a ⟨0 + e.val, by omega⟩)
    pointwise

theorem piece128 : k0_pay16 (F := Ideal) (k0_pay14 (View.ld x0 (Rect.unit ![0, 128] ![2048, 128] inb_S2048x512_S2048x128_0_128)) (k0_pay6 (k0_pay4 x1 x2 x3) (k0_pay5 x1 x2 x3) x4)) (k0_pay15 (View.ld x0 (Rect.unit ![0, 128] ![2048, 128] inb_S2048x512_S2048x128_0_128)) (k0_pay6 (k0_pay4 x1 x2 x3) (k0_pay5 x1 x2 x3) x4)) (View.ld (Val := Elt Ideal) (S := S256x512) (e' := .bf16) (k0_pay11 (F := Ideal) (k0_pay2 x1 x2 x3)) (Rect.unit ![0, 128] ![256, 128] inb_S256x512_S256x128_0_128)) (ix2 l e)
    = head (fun k => x0 (ix2 l k)) (kv x1 x2 x3) (fun k => x4 (ix2 0 k)) 128 (by omega) e := by
  rw [tile1]
  simp only [head, pay6_at]
  congr 1 <;> funext a
  · refine Finset.sum_congr rfl fun d _ => ?_
    congr 1
    pointwise
  · refine Eq.trans ?_ (pay11_at x1 x2 x3 a ⟨128 + e.val, by omega⟩)
    pointwise

theorem piece256 : k0_pay17 (F := Ideal) (View.ld x0 (Rect.unit ![0, 256] ![2048, 128] inb_S2048x512_S2048x128_0_256)) (k0_pay7 (k0_pay2 x1 x2 x3) x4) (View.ld (Val := Elt Ideal) (S := S256x512) (e' := .bf16) (k0_pay11 (F := Ideal) (k0_pay2 x1 x2 x3)) (Rect.unit ![0, 256] ![256, 128] inb_S256x512_S256x128_0_256)) (ix2 l e)
    = head (fun k => x0 (ix2 l k)) (kv x1 x2 x3) (fun k => x4 (ix2 0 k)) 256 (by omega) e := by
  rw [tile2]
  simp only [head, pay7_at]
  congr 1 <;> funext a
  · refine Finset.sum_congr rfl fun d _ => ?_
    congr 1
    pointwise
  · refine Eq.trans ?_ (pay11_at x1 x2 x3 a ⟨256 + e.val, by omega⟩)
    pointwise

theorem piece384 : k0_pay1 (F := Ideal) (k0_pay19 (View.ld x0 (Rect.unit ![0, 384] ![2048, 128] inb_S2048x512_S2048x128_0_384)) (k0_pay10 (k0_pay8 (k0_pay2 x1 x2 x3)) (k0_pay9 (k0_pay2 x1 x2 x3)) (FloatOps.ofBits FTy.f32 897988541#32) x4)) (k0_pay20 (View.ld x0 (Rect.unit ![0, 384] ![2048, 128] inb_S2048x512_S2048x128_0_384)) (k0_pay10 (k0_pay8 (k0_pay2 x1 x2 x3)) (k0_pay9 (k0_pay2 x1 x2 x3)) (FloatOps.ofBits FTy.f32 897988541#32) x4)) (View.ld (Val := Elt Ideal) (S := S256x512) (e' := .bf16) (k0_pay11 (F := Ideal) (k0_pay2 x1 x2 x3)) (Rect.unit ![0, 384] ![256, 128] inb_S256x512_S256x128_0_384)) (ix2 l e)
    = head (fun k => x0 (ix2 l k)) (kv x1 x2 x3) (fun k => x4 (ix2 0 k)) 384 (by omega) e := by
  rw [tile3]
  simp only [head, pay10_at]
  congr 1 <;> funext a
  · refine Finset.sum_congr rfl fun d _ => ?_
    congr 1
    pointwise
  · refine Eq.trans ?_ (pay11_at x1 x2 x3 a ⟨384 + e.val, by omega⟩)
    pointwise

end Pieces

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, _)

theorem head_congr (q : Fin 512 → EReal) (p : Fin 256 → Fin 1024 → EReal) (xw : Fin 128 → EReal) {o o' : ℕ} {ho : o + 128 ≤ 512}
    (ho' : o' + 128 ≤ 512) (h : o = o') {e e' : Fin 128} (he : e = e') : head q p xw o ho e = head q p xw o' ho' e' := by
  subst h he
  rfl

/-- What a point leaves in its block of the result. -/
theorem block_at (c : Dev nD) (t : Fin cfg0.N) (y0 : Fin 2048) (y1 : Fin 512) : outsAt0 m c t (ix2 y0 y1)
    = head (fun k => iblk m c 0 t (ix2 y0 k)) (kv (iblk m c 1 t) (iblk m c 2 t) (iblk m c 3 t)) (fun k => iblk m c 4 t (ix2 0 k))
      (y1.val / 128 * 128) (by omega) ⟨y1.val % 128, by omega⟩ := by
  unfold outsAt0
  frame_out
  simp (disch := decide) only [↓ View.readCov_skip, ↓ View.readCov_cons_toLoadRect, ↓ View.readCov_fill]
  generalize hy : (ix2 y0 y1 : S2048x512.Idx) = y
  canon_tiles x h
  case piece0 =>
    idx_vars x
    subst hy
    obtain rfl : y0 = x0 := Fin.ext h0
    change y1.val = _ at h1
    rw [head_congr _ _ _ (o' := 384) (by omega) (by omega) (e' := x1) (Fin.ext (show y1.val % 128 = x1.val by omega))]
    exact piece384 _ _ _ _ _ _ _
  case piece1 =>
    idx_vars x
    subst hy
    obtain rfl : y0 = x0 := Fin.ext h0
    change y1.val = _ at h1
    rw [head_congr _ _ _ (o' := 256) (by omega) (by omega) (e' := x1) (Fin.ext (show y1.val % 128 = x1.val by omega))]
    exact piece256 _ _ _ _ _ _ _
  case piece2 =>
    idx_vars x
    subst hy
    obtain rfl : y0 = x0 := Fin.ext h0
    change y1.val = _ at h1
    rw [head_congr _ _ _ (o' := 128) (by omega) (by omega) (e' := x1) (Fin.ext (show y1.val % 128 = x1.val by omega))]
    exact piece128 _ _ _ _ _ _ _
  case piece3 =>
    idx_vars x
    subst hy
    obtain rfl : y0 = x0 := Fin.ext h0
    change y1.val = _ at h1
    rw [head_congr _ _ _ (o' := 0) (by omega) (by omega) (e' := x1) (Fin.ext (show y1.val % 128 = x1.val by omega))]
    exact piece0 _ _ _ _ _ _ _

end Cert.XattnIdeal.Closed

namespace Cert.XattnRow

/-- The result at token `l` of sequence `b`, lane `j`, from the arrays. -/
def row (Q : Cert.XattnIdeal.S16x2048x512.Idx → EReal) (M : Cert.XattnIdeal.S16x256x1024.Idx → EReal)
    (MW : Cert.XattnIdeal.S1024.Idx → EReal) (W : Cert.XattnIdeal.S1024x1024.Idx → EReal) (XW : Cert.XattnIdeal.S128.Idx → EReal)
    (b : Fin 16) (l : Fin 2048) (j : Fin 512) : EReal :=
  head (fun k => Q (ix3 b l k) * sc * (Cert.Soft.L : EReal)) (fun a => proj (fun k => M (ix3 b a k)) (fun k => MW (ix1 k)) (fun k e => W (ix2 k e)))
    (fun k => XW (ix1 k)) (j.val / 128 * 128) (by omega) ⟨j.val % 128, by omega⟩

end Cert.XattnRow

namespace Cert.XattnIdeal.Closed

open Cert.XattnIdeal Cert.XattnIdeal.Gen Cert.XattnRow Cert.Sums

variable (m : (ℓ : Loc nD τ sig) → Buf (Elt Ideal) ℓ)

theorem read0 (c : Dev nD) (t : Fin cfg0.N) (y : Fin 2048) (k : Fin 512) : iblk m c 0 t (ix2 y k)
    = (show EReal from m ((c : Thread nD τ).loc main_arg0) (ix3 ⟨t.val, t.isLt⟩ y k)) * sc * (Cert.Soft.L : EReal) := by
  have ht : t.val < 16 := t.isLt
  have hr : iblk m c 0 t (ix2 y k) = V m c main_v7 (ix2 ⟨t.val * 2048 + y, by omega⟩ k) := by
    blk_ext [iblk, idx t]
  rw [hr]
  entry_read
  pointwise
  rw [Cert.Soft.div_log]
  congr 2
  blk_ext

theorem read1 (c : Dev nD) (t : Fin cfg0.N) (y : Fin 256) (k : Fin 1024) : iblk m c 1 t (ix2 y k)
    = m ((c : Thread nD τ).loc main_arg1) (ix3 ⟨t.val, t.isLt⟩ y k) := by
  have ht : t.val < 16 := t.isLt
  have hr : iblk m c 1 t (ix2 y k) = V m c main_v8 (ix2 ⟨t.val * 256 + y, by omega⟩ k) := by
    blk_ext [iblk, idx t]
  rw [hr]
  entry_read
  pointwise
  blk_ext

set_option maxHeartbeats 2000000 in
theorem final (c : Dev nD) : (dats m 0 c).arrAt 5 (cfgs 0).N
    = fun i : S32768x512.Idx => row (m ((c : Thread nD τ).loc main_arg0)) (m ((c : Thread nD τ).loc main_arg1))
      (m ((c : Thread nD τ).loc main_arg2)) (m ((c : Thread nD τ).loc main_arg3)) (m ((c : Thread nD τ).loc main_arg4))
      ⟨(i 0).val / 2048, by have := (i 0).isLt; change (i 0).val < 32768 at this; omega⟩ ⟨(i 0).val % 2048, by omega⟩ (i 1) := by
  refine (dats m 0 c).arrAt_eq_of_covers 5 _ (by decide +kernel) fun t _ y => ?_
  blk_simp [idx t]
  rw [after0_5]
  idx_vars y
  rw [block_at]
  have ht : t.val < 16 := t.isLt
  have e1 : ((View.whole main_v12).slice (win0_5.rect t)).emb (ix2 y0 y1) 1 = y1 := by
    apply Fin.ext
    blk_simp [idx t]
  simp only [e1, row]
  congr 1
  · funext k
    rw [read0]
    congr 3
    blk_ext [idx t]
  · funext a
    simp only [kv]
    congr 1
    · funext k
      rw [read1]
      blk_ext [idx t]
    · funext k
      blk_point [iblk, V, idx t]
    · funext k e
      blk_point [iblk, V, idx t]
  · funext k
    blk_point [iblk, V, idx t]

end Cert.XattnIdeal.Closed
end
-- ==== Proof.XattnRef.lean ====
/- The reference's cross-attention, read at an index: attention with each exponential divided by their sum. -/
module

public import proofs.«01_k».proof.Proof.XattnValue
public import proofs.«01_k».proof.Proof.Gen.XattnRefIdeal.Read

@[expose] public section

set_option maxRecDepth 16384

noncomputable section

open Idealize.ShloMosaic Idealize.ShloMosaic.TcCoe Idealize.SL.Sem

namespace Cert.XattnRefIdeal.Closed
open Cert.XattnRefIdeal Cert.XattnRefIdeal.Gen Cert.XattnRefIdeal.Read Cert.Sums Cert.XattnRow

/-- The reference's row maximum, at an index. -/
theorem max_at (v : FVec Ideal S16x4x2048x256 .f32) (c : FVec Ideal S_ .f32) (b : Fin 16) (h : Fin 4) (l : Fin 2048) :
    Host.reduce FloatOps.maximumf v c reducesTo_S16x4x2048x256_S16x4x2048_d3 h_S_ (ix3 b h l)
      = Finset.univ.fold max (c (Shape.Idx.first h_S_)) fun k : Fin 256 => v (ix4 b h l k) := by
  simp only [pointwise]

variable (Q : (⟨S16x2048x512, .f32⟩ : BufTy).Contents (Elt Ideal)) (M : (⟨S16x256x1024, .f32⟩ : BufTy).Contents (Elt Ideal))
  (MW : (⟨S1024, .f32⟩ : BufTy).Contents (Elt Ideal)) (WK : (⟨S1024x1024, .f32⟩ : BufTy).Contents (Elt Ideal))
  (XW : (⟨S128, .f32⟩ : BufTy).Contents (Elt Ideal))

/-- The projected memory of sequence `b`. -/
def kvr (b : Fin 16) (a : Fin 256) : Fin 1024 → EReal :=
  proj (fun k => M (ix3 b a k)) (fun k => MW (ix1 k)) (fun k e => WK (ix2 k e))

theorem proj_at (b : Fin 16) (a : Fin 256) (e : Fin 1024) : val_main_v14 (F := Ideal) M MW WK (ix3 b a e) = kvr M MW WK b a e := by
  pointwise [val_main_v14, val_main_v13, val_main_v12, val_main_v11, val_main_v10, val_main_v9,
    val_main_v8, val_main_v7, val_main_v6, val_main_v5, val_main_v4, val_main_v3, val_main_v2, val_main_v1, val_main_cst, val_main_cst_0, val_main_cst_1]
  simp only [kvr, proj, rms, n1024, eps]

theorem key_at (b : Fin 16) (a : Fin 256) (h : Fin 4) (d : Fin 128) : val_main_v29 (F := Ideal) M MW WK XW (ix4 b a h d)
    = key (kvr M MW WK b a) (fun k => XW (ix1 k)) (h.val * 128) (by omega) d := by
  pointwise [val_main_v29, val_main_v28, val_main_v27, val_main_v26, val_main_v25, val_main_v24, val_main_v23, val_main_v22, val_main_v21, val_main_v20, val_main_v19,
    val_main_v18, val_main_v17, val_main_v16, val_main_v15, val_main_cst_2, val_main_cst_3, val_main_cst_4]
  simp only [proj_at, key, rms, n128, eps]

theorem value_at (b : Fin 16) (a : Fin 256) (h : Fin 4) (d : Fin 128) : val_main_v31 (F := Ideal) M MW WK (ix4 b a h d)
    = kvr M MW WK b a ⟨512 + (h.val * 128 + d.val), by omega⟩ := by
  pointwise [val_main_v31, val_main_v30]
  simp only [proj_at]

theorem score_at (b : Fin 16) (h : Fin 4) (l : Fin 2048) (a : Fin 256) : val_main_v34 (F := Ideal) Q M MW WK XW (ix4 b h l a)
    = (∑ d : Fin 128, Q (ix3 b l ⟨h.val * 128 + d.val, by omega⟩) * key (kvr M MW WK b a) (fun k => XW (ix1 k)) (h.val * 128) (by omega) d)
      * sc := by
  pointwise [val_main_v34, val_main_v33, val_main_v32, val_main_cst_5, val_main_v0]
  simp only [key_at, sc]

theorem peak_at (b : Fin 16) (h : Fin 4) (l : Fin 2048) : val_main_v35 (F := Ideal) Q M MW WK XW (ix3 b h l)
    = Finset.univ.fold max low fun a : Fin 256 => val_main_v34 (F := Ideal) Q M MW WK XW (ix4 b h l a) :=
  max_at _ _ b h l

/-- The weights from the scores, each exponential divided by their sum. -/
def soft {n : ℕ} (s : Fin n → EReal) (a : Fin n) : EReal :=
  Ideal.div (Ideal.exp (s a - max low (Finset.fold max low s Finset.univ)))
    (∑ x, Ideal.exp (s x - max low (Finset.fold max low s Finset.univ)))

theorem idx38 (b : Fin 16) (h : Fin 4) (l : Fin 2048) (a : Fin 256) : idx_main_v38 (idx_main_v39 (ix4 b h l a)) = ix3 b h l := by
  funext d
  match d with
  | ⟨0, _⟩ => rfl
  | ⟨1, _⟩ => rfl
  | ⟨2, _⟩ => rfl

theorem idx43 (b : Fin 16) (h : Fin 4) (l : Fin 2048) (a : Fin 256) : idx_main_v43 (idx_main_v44 (ix4 b h l a)) = ix3 b h l := by
  funext d
  match d with
  | ⟨0, _⟩ => rfl
  | ⟨1, _⟩ => rfl
  | ⟨2, _⟩ => rfl

theorem idx42 (b : Fin 16) (h : Fin 4) (l : Fin 2048) (a : Fin 256) : idx_main_v42 (ix3 b h l) a = ix4 b h l a := by
  funext d
  match d with
  | ⟨0, _⟩ => rfl
  | ⟨1, _⟩ => rfl
  | ⟨2, _⟩ => rfl
  | ⟨3, _⟩ => rfl

/-- One exponential of the reference. -/
theorem exp_at (b : Fin 16) (h : Fin 4) (l : Fin 2048) (a : Fin 256) : val_main_v41 (F := Ideal) Q M MW WK XW (ix4 b h l a)
    = Ideal.exp (val_main_v34 (F := Ideal) Q M MW WK XW (ix4 b h l a)
      - max low (Finset.univ.fold max low fun a : Fin 256 => val_main_v34 (F := Ideal) Q M MW WK XW (ix4 b h l a))) := by
  rw [val_main_v41_apply, val_main_v40_apply, val_main_v39_apply, val_main_v38_apply, idx38, val_main_v37_apply, peak_at,
    val_main_v36_apply, val_main_cst_7_apply]
  generalize val_main_v34 (F := Ideal) Q M MW WK XW = V
  rfl

theorem soft_at (b : Fin 16) (h : Fin 4) (l : Fin 2048) (a : Fin 256) : val_main_v45 (F := Ideal) Q M MW WK XW (ix4 b h l a)
    = soft (fun a => val_main_v34 (F := Ideal) Q M MW WK XW (ix4 b h l a)) a := by
  rw [val_main_v45_apply, val_main_v44_apply, val_main_v43_apply, idx43, val_main_v42_apply, exp_at]
  simp only [idx42, exp_at, val_main_cst_8_apply]
  generalize val_main_v34 (F := Ideal) Q M MW WK XW = V
  simp only [pointwise, soft, zero_add]

theorem ref_at (j0 : Fin 32768) (j1 : Fin 512) : val_main_v49 (F := Ideal) Q M MW WK XW (ix2 j0 j1)
    = ∑ a : Fin 256, kvr M MW WK ⟨j0.val / 2048, by omega⟩ a ⟨512 + (j1.val / 128 * 128 + j1.val % 128), by omega⟩
      * soft (fun a => (∑ d : Fin 128, Q (ix3 ⟨j0.val / 2048, by omega⟩ ⟨j0.val % 2048, by omega⟩ ⟨j1.val / 128 * 128 + d.val, by omega⟩)
          * key (kvr M MW WK ⟨j0.val / 2048, by omega⟩ a) (fun k => XW (ix1 k)) (j1.val / 128 * 128) (by omega) d) * sc) a := by
  pointwise [val_main_v49, val_main_v48, val_main_v47, val_main_v46]
  simp only [value_at, soft_at, score_at]

end Cert.XattnRefIdeal.Closed
end
-- ==== Proof.XattnClaim.lean ====
/- The cross-attention claim: the array the call leaves is the reference's array, wherever the queries and the
   key weights are real. -/
module

public import proofs.«01_k».proof.Defs
public import proofs.«01_k».proof.Proof.XattnValue
public import proofs.«01_k».proof.Proof.XattnRef
public import proofs.«01_k».proof.Proof.Gen.Pre_xattn_finite
public import Idealize.ShloMosaic.Lib.Claim

@[expose] public section

set_option maxRecDepth 16384

noncomputable section

open Idealize.ShloMosaic Idealize.ShloMosaic.TcCoe Idealize.SL.Sem

namespace Cert.XattnClaim

open Cert.Soft Cert.Sums Cert.XattnRow Cert.XattnRefIdeal.Closed

theorem sc_real : ∃ r : ℝ, 0 ≤ r ∧ sc = (r : EReal) := by
  refine ⟨11863283 / 134217728, by norm_num, ?_⟩
  simp [sc, Ideal.ofBits, Ideal.ieee, -EReal.coe_mul]
  norm_num

theorem eps_real : ∃ r : ℝ, 0 < r ∧ eps = (r : EReal) := by
  refine ⟨8796093 / 8796093022208, by norm_num, ?_⟩
  simp [eps, Ideal.ofBits, Ideal.ieee, -EReal.coe_mul]
  norm_num

theorem n128_real : ∃ r : ℝ, 0 < r ∧ n128 = (r : EReal) := by
  refine ⟨128, by norm_num, ?_⟩
  simp [n128, Ideal.ofBits, Ideal.ieee, -EReal.coe_mul]
  norm_num

theorem key_fine (p : Fin 1024 → EReal) (xw : Fin 128 → EReal) (o : ℕ) (ho : o + 128 ≤ 512) (hx : ∀ d, Fine (xw d)) (d : Fin 128) :
    Fine (key p xw o ho d) := by
  obtain ⟨e, he, hE⟩ := eps_real
  obtain ⟨N, hN, hn⟩ := n128_real
  unfold key rms
  rw [hE, hn]
  exact (unit_fine (fun d : Fin 128 => p ⟨o + d.val, by omega⟩) hN he d).mul (hx d)

/-- Late division and base two against early division and natural exponentials. -/
theorem late_soft {n : ℕ} (hn : 0 < n) (s v : Fin n → EReal) (hs : ∀ a, Fine (s a)) :
    late (fun a => s a * (L : EReal)) v = ∑ a, v a * soft s a := by
  have hM : Fine (Finset.fold max ⊥ s Finset.univ) := by
    refine fine_of (fold_ne_top _ _ fun a _ => (hs a).ne_top) fun h => ?_
    have := le_fold Finset.univ s (Finset.mem_univ (⟨0, hn⟩ : Fin n))
    rw [h, le_bot_iff] at this
    exact (hs _).ne_bot this
  have hp : ∀ a, Ideal.exp2 (s a * (L : EReal) - Finset.fold max ⊥ s Finset.univ * (L : EReal))
      = Ideal.exp (s a - Finset.fold max ⊥ s Finset.univ) := fun a => exp2_eq (hs a).ne_top hM
  unfold late soft low
  rw [low_eq, fold_mul]
  simp only [show ∀ x : EReal, FloatOps.exp2 (F := Ideal) (φ := .f32) x = Ideal.exp2 x from fun _ => rfl, hp, max_eq_right bot_le]
  refine quot _ _ (sum_pos _ _ (fun a _ => exp_fine (hs a).ne_top hM) (Finset.mem_univ ⟨0, hn⟩) ?_)
  obtain ⟨r, hr, he⟩ := exp_pos (hs ⟨0, hn⟩) hM
  rw [he]
  exact EReal.coe_ne_zero.mpr hr.ne'

/-- The kernel's row of one head is the reference's. -/
theorem head_eq (q : Fin 512 → EReal) (p : Fin 256 → Fin 1024 → EReal) (xw : Fin 128 → EReal) (o : ℕ) (ho : o + 128 ≤ 512) (e : Fin 128)
    (hq : ∀ k, Fine (q k)) (hx : ∀ d, Fine (xw d)) :
    head (fun k => q k * sc * (L : EReal)) p xw o ho e
      = ∑ a, p a ⟨512 + (o + e.val), by omega⟩ * soft (fun a => (∑ d : Fin 128, q ⟨o + d.val, by omega⟩ * key (p a) xw o ho d) * sc) a := by
  obtain ⟨c, hc, hC⟩ := sc_real
  unfold head
  rw [hC]
  simp only [score _ _ hc]
  refine late_soft (by omega) _ _ fun a => Fine.mul (fine_sum _ _ fun d _ => (hq _).mul (key_fine _ _ _ _ hx d)) ⟨c, rfl⟩

/-- What the precondition says: the queries and the key weights are real. -/
theorem pre (A : FVec Ideal Cert.Pre_xattn_finite.S16x2048x512 .f32) (B : FVec Ideal Cert.Pre_xattn_finite.S16x256x1024 .f32) (C : FVec Ideal Cert.Pre_xattn_finite.S1024 .f32) (D : FVec Ideal Cert.Pre_xattn_finite.S1024x1024 .f32) (E : FVec Ideal Cert.Pre_xattn_finite.S128 .f32)
   [Cert.Pre_xattn_finite.Facts] (h : Cert.Pre_xattn_finite.fn A B C D E = fun _ => 1#1) :
   (∀ i, Fine (A i)) ∧ ∀ i, Fine (E i) := by
  have h0 := congrFun h ix0
  obtain ⟨ha, he⟩ := IntOp.andi_eq_one.1 h0
  exact ⟨fine_all _ _ (fun i => inf_eq) _ _ _ _ ha, fine_all _ _ (fun i => inf_eq) _ _ _ _ he⟩

theorem algebraic : Cert.algebraic_XattnIdeal_XattnRefIdeal_pre_xattn_finite (hXattnIdeal := Cert.XattnIdeal.Gen.facts)
    (hXattnRefIdeal := Cert.XattnRefIdeal.Gen.facts) (hPre_xattn_finite := Cert.Pre_xattn_finite.Gen.facts) := by
  pair_intro
  · run_from Cert.XattnIdeal.Gen.run_main m g
  · run_from Cert.XattnRefIdeal.Value.run m' g'
    obtain ⟨h0, h1, h2, h3, h4⟩ := hagree c
    obtain ⟨hq, hx⟩ := pre _ _ _ _ _ (hpre c)
    rw [Cert.XattnRefIdeal.Read.val_main_v49_eq, h0, h1, h2, h3, h4]
    refine Eq.trans ?_ (Cert.XattnIdeal.Closed.final m c).symm
    funext i
    idx_vars i
    rw [ref_at]
    refine Eq.symm ?_
    unfold row
    refine (head_eq _ _ _ _ _ _ (fun k => hq _) (fun d => hx _)).trans ?_
    rfl

end Cert.XattnClaim
end
-- ==== Proof.AttnHost.lean ====
/- The arrays the attention call is given, read at an entry: the scaled queries, the doubled keys, the turned
   values and the masks. -/
module

public import Idealize.ShloMosaic.Lib.StableHlo.RunRead
public import proofs.«01_k».proof.Proof.Gen.AttnIdeal.Value
public import proofs.«01_k».proof.Proof.Soft
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem

namespace Cert.AttnIdeal.Host

open Cert.AttnIdeal Cert.AttnIdeal.Gen

variable (m : (ℓ : Loc nD τ sig) → Buf (Elt Ideal) ℓ)

theorem idx : ∀ t : Fin cfg0.N, win0_0.index t = ![0] ∧ win0_1.index t = ![0, 0, 0] ∧ win0_2.index t = ![1, 0, 0]
    ∧ win0_3.index t = ![2, 0, 0] ∧ win0_4.index t = ![t.val, 0] ∧ win0_5.index t = ![16 * t.val, 0] ∧ win0_6.index t = ![t.val, 0]
    ∧ win0_7.index t = ![16 * t.val + 15, 0] ∧ win0_8.index t = ![t.val, 0] ∧ win0_9.index t = ![t.val, 0]
    ∧ win0_10.index t = ![t.val, 15] ∧ win0_11.index t = ![t.val, 0] :=
  (by decide +kernel : ∀ t : Fin grid0.N, _)

/-- The scale of the scores, as the programs write it. -/
def eighth : EReal := Ideal.ofBits .f32 1040187392#32

theorem queries (c : Dev nD) (n : Fin 32768) (k : Fin 512) : V m c main_v7 (ix2 n k)
    = (show EReal from m ((c : Thread nD τ).loc main_arg0) (ix3 ⟨n.val / 2048, by omega⟩ ⟨n.val % 2048, by omega⟩ k)) * eighth * (Cert.Soft.L : EReal) := by
  simp only [V, List.flatten_cons, List.flatten_nil, List.append_nil]
  after_reads_simp
  pointwise
  exact Cert.Soft.div_log _

theorem keys (c : Dev nD) (n : Fin 32768) (l : Fin 256) : V m c main_v14 (ix2 n l)
    = m ((c : Thread nD τ).loc main_arg1) (ix3 ⟨n.val / 2048, by omega⟩ ⟨n.val % 2048, by omega⟩ ⟨64 * (l.val / 128) + l.val % 64, by omega⟩) := by
  simp only [V, List.flatten_cons, List.flatten_nil, List.append_nil]
  after_reads_simp
  pointwise
  by_cases h1 : l.val < 64
  · refine (dif_pos h1).trans ?_
    after_reads_simp
    pointwise
    blk_ext
  by_cases h2 : l.val - 64 < 64
  · refine (dif_neg h1).trans ((dif_pos h2).trans ?_)
    after_reads_simp
    pointwise
    blk_ext
  by_cases h3 : l.val - 64 - 64 < 64
  · refine (dif_neg h1).trans ((dif_neg h2).trans ((dif_pos h3).trans ?_))
    after_reads_simp
    pointwise
    blk_ext
  · refine (dif_neg h1).trans ((dif_neg h2).trans ((dif_neg h3).trans ?_))
    after_reads_simp
    pointwise
    blk_ext

theorem values (c : Dev nD) (r : Fin 2048) (n : Fin 2048) : V m c main_v17 (ix2 r n)
    = m ((c : Thread nD τ).loc main_arg2) (ix3 ⟨r.val / 128, by omega⟩ n ⟨r.val % 128, by omega⟩) := by
  simp only [V, List.flatten_cons, List.flatten_nil, List.append_nil]
  after_reads_simp
  pointwise

theorem of_c h1 h2 h3 (v) : (StableHlo.TRef.of main_c h1 h2 h3 : StableHlo.TRef sig ⟨S_, .i32⟩).ofBuf (Val := Elt Ideal) v = v := rfl
theorem of_v21 h1 h2 h3 (v) : (StableHlo.TRef.of main_v21 h1 h2 h3 : StableHlo.TRef sig ⟨S1x512, .i32⟩).ofBuf (Val := Elt Ideal) v = v := rfl
theorem to_v22 h1 h2 h3 (v) : (StableHlo.TRef.of main_v22 h1 h2 h3 : StableHlo.TRef sig ⟨S1x512, .i32⟩).toBuf (Val := Elt Ideal) v = v := rfl
theorem of_v43 h1 h2 h3 (v) : (StableHlo.TRef.of main_v43 h1 h2 h3 : StableHlo.TRef sig ⟨S3x384x512, .i1⟩).ofBuf (Val := Elt Ideal) v = v := rfl
theorem to_v44 h1 h2 h3 (v) : (StableHlo.TRef.of main_v44 h1 h2 h3 : StableHlo.TRef sig ⟨S3x384x512, .f32⟩).toBuf (Val := Elt Ideal) v = v := rfl
theorem of_zero h1 h2 h3 (v) : (StableHlo.TRef.of main_cst_4 h1 h2 h3 : StableHlo.TRef sig ⟨S_, .f32⟩).ofBuf (Val := Elt Ideal) v = v := rfl
theorem of_low h1 h2 h3 (v) : (StableHlo.TRef.of main_cst_5 h1 h2 h3 : StableHlo.TRef sig ⟨S_, .f32⟩).ofBuf (Val := Elt Ideal) v = v := rfl

/-- The remainder by 128 as the program computes it. -/
def rest (x : BitVec 32) : BitVec 32 :=
  let q : BitVec 32 := Scalar.select (IntOp.cmpi .eq 128#32 0#32) 1#32 128#32
  Scalar.select (IntOp.andi (IntOp.cmpi .ne (IntOp.cmpi .slt (IntOp.remsi ArithUnit.host x q) 0#32) (IntOp.cmpi .slt q 0#32))
      (IntOp.cmpi .ne (IntOp.remsi ArithUnit.host x q) 0#32))
    (IntOp.addi (IntOp.remsi ArithUnit.host x q) q) (IntOp.remsi ArithUnit.host x q)

theorem rest_at : ∀ j : Fin 512, rest (BitVec.ofNat 32 j.val) = BitVec.ofNat 32 (j.val % 128) := by decide +kernel

theorem bit_and (p q : Prop) [Decidable p] [Decidable q] :
    IntOp.andi (BitVec.ofBool (decide p)) (BitVec.ofBool (decide q)) = BitVec.ofBool (decide (p ∧ q)) := by
  by_cases hp : p <;> by_cases hq : q <;> simp [hp, hq] <;> decide

theorem bit_select {α : Type} (p : Prop) [Decidable p] (x y : α) : Scalar.select (BitVec.ofBool (decide p)) x y = if p then x else y := by
  by_cases hp : p <;> simp [hp, Scalar.select]

/-- The host operations before the call. -/
abbrev line : List (HloOp τ sig (Elt Ideal)) := hostOps0 ++ (hostOps0_1 ++ (hostOps0_2 ++ (hostOps0_3 ++ hostOps0_4)))

theorem near (k : Fin 384) (j : Fin 512) :
    IntOp.andi (IntOp.cmpi .sge (BitVec.ofNat 32 k.val) (rest (BitVec.ofNat 32 j.val)))
      (IntOp.cmpi .sle (BitVec.ofNat 32 k.val) (IntOp.addi (rest (BitVec.ofNat 32 j.val)) 256#32))
      = BitVec.ofBool (decide (j.val % 128 ≤ k.val ∧ k.val ≤ j.val % 128 + 256)) := by
  rw [rest_at, show IntOp.addi (BitVec.ofNat 32 (j.val % 128)) 256#32 = BitVec.ofNat 32 (j.val % 128 + 256) from (BitVec.ofNat_add _ _).symm,
    WordCmp.cmpi_sge_ofNat (by omega) (by omega), WordCmp.cmpi_sle_ofNat (by omega) (by omega), bit_and]

theorem mask0 (c : Dev nD) (z : Fin 1) (k : Fin 384) (j : Fin 512) :
    (StableHlo.upto line (fun b => m (c, b)) 69 (Proc.tc.devRef main_v40) (ix3 z k j) : BitVec 1)
      = BitVec.ofBool (decide ((j.val % 128 ≤ k.val ∧ k.val ≤ j.val % 128 + 256) ∧ 128 ≤ k.val)) := by
  after_reads_simp
  simp only [StableHlo.TRef.ofBuf_toBuf, of_c, of_v21, to_v22]
  pointwise [id_eq]
  refine (congrArg (fun w => IntOp.andi w (IntOp.cmpi .sge (BitVec.ofNat 32 k.val) 128#32)) (near k j)).trans ?_
  show IntOp.andi _ (IntOp.cmpi .sge (BitVec.ofNat 32 k.val) (BitVec.ofNat 32 128)) = _
  rw [WordCmp.cmpi_sge_ofNat (by omega) (by omega), bit_and]

theorem mask1 (c : Dev nD) (z : Fin 1) (k : Fin 384) (j : Fin 512) :
    (StableHlo.upto line (fun b => m (c, b)) 69 (Proc.tc.devRef main_v41) (ix3 z k j) : BitVec 1)
      = BitVec.ofBool (decide (j.val % 128 ≤ k.val ∧ k.val ≤ j.val % 128 + 256)) := by
  after_reads_simp
  simp only [StableHlo.TRef.ofBuf_toBuf, of_c, of_v21, to_v22]
  pointwise [id_eq]
  exact near k j

theorem mask2 (c : Dev nD) (z : Fin 1) (k : Fin 384) (j : Fin 512) :
    (StableHlo.upto line (fun b => m (c, b)) 69 (Proc.tc.devRef main_v42) (ix3 z k j) : BitVec 1)
      = BitVec.ofBool (decide ((j.val % 128 ≤ k.val ∧ k.val ≤ j.val % 128 + 256) ∧ k.val < 256)) := by
  after_reads_simp
  simp only [StableHlo.TRef.ofBuf_toBuf, of_c, of_v21, to_v22]
  pointwise [id_eq]
  refine (congrArg (fun w => IntOp.andi w (IntOp.cmpi .slt (BitVec.ofNat 32 k.val) 256#32)) (near k j)).trans ?_
  show IntOp.andi _ (IntOp.cmpi .slt (BitVec.ofNat 32 k.val) (BitVec.ofNat 32 256)) = _
  rw [WordCmp.cmpi_slt_ofNat (by omega) (by omega), bit_and]

theorem masks (c : Dev nD) (a : Fin 3) (k : Fin 384) (j : Fin 512) : V m c main_v45 (ix3 a k j)
    = (if (j.val % 128 ≤ k.val ∧ k.val ≤ j.val % 128 + 256) ∧ (a.val = 0 → 128 ≤ k.val) ∧ (a.val = 2 → k.val < 256) then 0 else ⊥ : EReal) := by
  simp only [V, List.flatten_cons, List.flatten_nil, List.append_nil]
  after_reads_simp
  simp only [StableHlo.TRef.ofBuf_toBuf, of_v43, to_v44, of_zero, of_low]
  pointwise [id_eq]
  have close : ∀ (w : BitVec 1) (p : Prop) [Decidable p], w = BitVec.ofBool (decide p) →
      (p ↔ (j.val % 128 ≤ k.val ∧ k.val ≤ j.val % 128 + 256) ∧ (a.val = 0 → 128 ≤ k.val) ∧ (a.val = 2 → k.val < 256)) →
      Scalar.select w (0 : EReal) (Ideal.ofBits .f32 4286578688#32)
        = (if (j.val % 128 ≤ k.val ∧ k.val ≤ j.val % 128 + 256) ∧ (a.val = 0 → 128 ≤ k.val) ∧ (a.val = 2 → k.val < 256) then 0 else ⊥ : EReal) := by
    intro w p _ hw hp
    rw [hw, bit_select, Cert.Soft.low_eq]
    exact if_congr hp rfl rfl
  by_cases h0 : a.val < 1
  · exact close _ _ ((dif_pos h0).trans (mask0 m c _ k j)) (by omega)
  by_cases h1 : a.val - 1 < 1
  · exact close _ _ ((dif_neg h0).trans ((dif_pos h1).trans (mask1 m c _ k j))) (by omega)
  · exact close _ _ ((dif_neg h0).trans ((dif_neg h1).trans (mask2 m c _ k j))) (by omega)

theorem read4 (c : Dev nD) (t : Fin cfg0.N) (y : Fin 2048) (k : Fin 512) : iblk m c 4 t (ix2 y k)
    = (show EReal from m ((c : Thread nD τ).loc main_arg0) (ix3 ⟨t.val, t.isLt⟩ y k)) * eighth * (Cert.Soft.L : EReal) := by
  have ht : t.val < 16 := t.isLt
  have hr : iblk m c 4 t (ix2 y k) = V m c main_v7 (ix2 ⟨t.val * 2048 + y, by omega⟩ k) := by
    blk_ext [iblk, idx t]
  rw [hr, queries]
  congr 2
  blk_ext

theorem read5 (c : Dev nD) (t : Fin cfg0.N) (y : Fin 128) (l : Fin 256) : iblk m c 5 t (ix2 y l)
    = m ((c : Thread nD τ).loc main_arg1) (ix3 ⟨t.val, t.isLt⟩ ⟨y.val, by omega⟩ ⟨64 * (l.val / 128) + l.val % 64, by omega⟩) := by
  have ht : t.val < 16 := t.isLt
  have hr : iblk m c 5 t (ix2 y l) = V m c main_v14 (ix2 ⟨16 * t.val * 128 + y, by omega⟩ l) := by
    blk_ext [iblk, idx t]
  rw [hr, keys]
  blk_ext

theorem read6 (c : Dev nD) (t : Fin cfg0.N) (y : Fin 2048) (l : Fin 256) : iblk m c 6 t (ix2 y l)
    = m ((c : Thread nD τ).loc main_arg1) (ix3 ⟨t.val, t.isLt⟩ y ⟨64 * (l.val / 128) + l.val % 64, by omega⟩) := by
  have ht : t.val < 16 := t.isLt
  have hr : iblk m c 6 t (ix2 y l) = V m c main_v14 (ix2 ⟨t.val * 2048 + y, by omega⟩ l) := by
    blk_ext [iblk, idx t]
  rw [hr, keys]
  blk_ext

theorem read7 (c : Dev nD) (t : Fin cfg0.N) (y : Fin 128) (l : Fin 256) : iblk m c 7 t (ix2 y l)
    = m ((c : Thread nD τ).loc main_arg1) (ix3 ⟨t.val, t.isLt⟩ ⟨1920 + y.val, by omega⟩ ⟨64 * (l.val / 128) + l.val % 64, by omega⟩) := by
  have ht : t.val < 16 := t.isLt
  have hr : iblk m c 7 t (ix2 y l) = V m c main_v14 (ix2 ⟨(16 * t.val + 15) * 128 + y, by omega⟩ l) := by
    blk_ext [iblk, idx t]
  rw [hr, keys]
  blk_ext

theorem read8 (c : Dev nD) (t : Fin cfg0.N) (r n : Fin 128) : iblk m c 8 t (ix2 r n)
    = m ((c : Thread nD τ).loc main_arg2) (ix3 ⟨t.val, t.isLt⟩ ⟨n.val, by omega⟩ r) := by
  have ht : t.val < 16 := t.isLt
  have hr : iblk m c 8 t (ix2 r n) = V m c main_v17 (ix2 ⟨t.val * 128 + r, by omega⟩ ⟨n.val, by omega⟩) := by
    blk_ext [iblk, idx t]
  rw [hr, values]
  blk_ext

theorem read9 (c : Dev nD) (t : Fin cfg0.N) (r : Fin 128) (n : Fin 2048) : iblk m c 9 t (ix2 r n)
    = m ((c : Thread nD τ).loc main_arg2) (ix3 ⟨t.val, t.isLt⟩ n r) := by
  have ht : t.val < 16 := t.isLt
  have hr : iblk m c 9 t (ix2 r n) = V m c main_v17 (ix2 ⟨t.val * 128 + r, by omega⟩ n) := by
    blk_ext [iblk, idx t]
  rw [hr, values]
  blk_ext

theorem read10 (c : Dev nD) (t : Fin cfg0.N) (r n : Fin 128) : iblk m c 10 t (ix2 r n)
    = m ((c : Thread nD τ).loc main_arg2) (ix3 ⟨t.val, t.isLt⟩ ⟨1920 + n.val, by omega⟩ r) := by
  have ht : t.val < 16 := t.isLt
  have hr : iblk m c 10 t (ix2 r n) = V m c main_v17 (ix2 ⟨t.val * 128 + r, by omega⟩ ⟨15 * 128 + n.val, by omega⟩) := by
    blk_ext [iblk, idx t]
  rw [hr, values]
  blk_ext

theorem read0 (c : Dev nD) (t : Fin cfg0.N) (h : Fin 8) : iblk m c 0 t (ix1 h) = m ((c : Thread nD τ).loc main_arg3) (ix1 h) := by
  blk_ext [iblk, V, idx t]

theorem read1 (c : Dev nD) (t : Fin cfg0.N) (k : Fin 384) (j : Fin 512) : iblk m c 1 t (ix3 0 k j) = V m c main_v45 (ix3 0 k j) := by
  blk_ext [iblk, idx t]

theorem read2 (c : Dev nD) (t : Fin cfg0.N) (k : Fin 384) (j : Fin 512) : iblk m c 2 t (ix3 0 k j) = V m c main_v45 (ix3 1 k j) := by
  blk_ext [iblk, idx t]

theorem read3 (c : Dev nD) (t : Fin cfg0.N) (k : Fin 384) (j : Fin 512) : iblk m c 3 t (ix3 0 k j) = V m c main_v45 (ix3 2 k j) := by
  blk_ext [iblk, idx t]

end Cert.AttnIdeal.Host
end
-- ==== Proof.AttnTile.lean ====
/- One tile of the attention call's result: two heads of one block of 128 queries, over the block's three
   neighbours of keys. Every stored tile of the call is this one operation at its own blocks. -/
module

public import proofs.«01_k».proof.Proof.Gen.AttnIdeal.Value
public import proofs.«01_k».proof.Proof.Soft
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 65536

noncomputable section

open Idealize.ShloMosaic Idealize.ShloMosaic.TcCoe Idealize.SL.Sem

namespace Cert.AttnIdeal.Tile

open Cert.AttnIdeal Cert.AttnIdeal.Gen

/-- The lanes of the even head of a pair. -/
def lanes : IVec S128x128 1 := cmpi .slt (iota .tc S128x128 32 [1] iota_S128x128_d1_w32) (broadcast S128x128 64#32)

/-- The number of the head a column belongs to, among the four of a group. -/
def slot : IVec S1x512 32 :=
  select (andi (cmpi .ne (subi (extui 32 (cmpi .sgt (iota .tc S1x512 32 [1] iota_S1x512_d1_w32) (broadcast S1x512 0#32)) natLt_1_32)
        (extui 32 (cmpi .slt (iota .tc S1x512 32 [1] iota_S1x512_d1_w32) (broadcast S1x512 0#32)) natLt_1_32)) (broadcast S1x512 1#32))
      (cmpi .ne (remsi (iota .tc S1x512 32 [1] iota_S1x512_d1_w32) (broadcast S1x512 128#32)) (broadcast S1x512 0#32)))
    (subi (divsi (iota .tc S1x512 32 [1] iota_S1x512_d1_w32) (broadcast S1x512 128#32)) (broadcast S1x512 1#32))
    (divsi (iota .tc S1x512 32 [1] iota_S1x512_d1_w32) (broadcast S1x512 128#32))

/-- A pair of query heads with the odd one zeroed. -/
def even (Q : FVec Ideal S128x128 .bf16) : FVec Ideal S128x128 .bf16 :=
  select lanes (shapeCast S128x128 Q shapeCasts_S128x128_S128x128) (broadcast S128x128 (Scalar.ofBits .bf16 0x0000#16))

/-- A pair of query heads with the even one zeroed. -/
def odd (Q : FVec Ideal S128x128 .bf16) : FVec Ideal S128x128 .bf16 :=
  select (xori lanes (constantI S128x128 1 1#1)) (shapeCast S128x128 Q shapeCasts_S128x128_S128x128)
    (broadcast S128x128 (Scalar.ofBits .bf16 0x0000#16))

/-- One head's sink put at the head's columns. -/
def put (n : BitVec 32) (s : Ideal .f32) (r : FVec Ideal S1x512 .f32) : FVec Ideal S1x512 .f32 :=
  select (cmpi .eq slot (broadcast S1x512 n)) (broadcast S1x512 (Scalar.mulf s (Named.named κ "log2e" 0x3FB8AA3B#32))) r

/-- The sinks of the four heads, a row over the columns. -/
def sinks (s0 s1 s2 s3 : Ideal .f32) : FVec Ideal S1x512 .f32 :=
  put 3#32 s3 (put 2#32 s2 (put 1#32 s1 (put 0#32 s0 (broadcast S1x512 (Scalar.ofBits .f32 0x00000000#32)))))

/-- The products of the keys with the queries. -/
def raw (K0 K1 K2 Qa Qb : FVec Ideal S128x128 .bf16) : FVec Ideal S384x512 .f32 :=
  matmul dot_S384x128_S512x128_S384x512_1_1_0_0_n_n none
    (concatenate S384x128 0 [⟨S128x128, shapeCast S128x128 K0 shapeCasts_S128x128_S128x128⟩,
      ⟨S128x128, shapeCast S128x128 K1 shapeCasts_S128x128_S128x128⟩,
      ⟨S128x128, shapeCast S128x128 K2 shapeCasts_S128x128_S128x128⟩] concatenates_S128x128_S128x128_S128x128_S384x128_d0)
    (concatenate S512x128 0 [⟨S128x128, even Qa⟩, ⟨S128x128, odd Qa⟩, ⟨S128x128, even Qb⟩, ⟨S128x128, odd Qb⟩]
      concatenates_S128x128_S128x128_S128x128_S128x128_S512x128_d0)
    (constant S384x512 .f32 0x00000000#32)

/-- The scores: the products, with the masks added on the first and the last block of keys. -/
def scores (R : FVec Ideal S384x512 .f32) (Ma Mb : Vec Ideal S1x128x512 .f32) : FVec Ideal S384x512 .f32 :=
  concatenate S384x512 0
    [⟨S128x512, addf (extractStridedSlice S128x512 ![0, 0] R slices_S384x512_o0_0_S128x512) (shapeCast S128x512 Ma shapeCasts_S1x128x512_S128x512)⟩,
     ⟨S128x512, extractStridedSlice S128x512 ![128, 0] R slices_S384x512_o128_0_S128x512⟩,
     ⟨S128x512, addf (extractStridedSlice S128x512 ![256, 0] R slices_S384x512_o256_0_S128x512) (shapeCast S128x512 Mb shapeCasts_S1x128x512_S128x512)⟩]
    concatenates_S128x512_S128x512_S128x512_S384x512_d0

/-- The largest score of a column, its sink among them. -/
def top (S : FVec Ideal S384x512 .f32) (r : FVec Ideal S1x512 .f32) : FVec Ideal S1x512 .f32 :=
  maximumf (shapeCast S1x512 (multiReduction .maximumf [0] S512 S 0xFF800000#32 reduces_S384x512_S512 (.inl rfl) rfl) shapeCasts_S512_S1x512) r

/-- The values weighted, with the sum of the weights in the lower half of the rows. -/
def weighted (V0 V1 V2 : FVec Ideal S64x128 .bf16) (S : FVec Ideal S384x512 .f32) (r : FVec Ideal S1x512 .f32) : FVec Ideal S128x512 .f32 :=
  matmul dot_S128x384_S384x512_S128x512_1_0_0_1_n_n none
    (concatenate S128x384 0 [⟨S64x384, concatenate S64x384 1 [⟨S64x128, shapeCast S64x128 V0 shapeCasts_S64x128_S64x128⟩,
        ⟨S64x128, shapeCast S64x128 V1 shapeCasts_S64x128_S64x128⟩, ⟨S64x128, shapeCast S64x128 V2 shapeCasts_S64x128_S64x128⟩]
        concatenates_S64x128_S64x128_S64x128_S64x384_d1⟩, ⟨S64x384, broadcast S64x384 (Scalar.ofBits .bf16 0x3F80#16)⟩]
      concatenates_S64x384_S64x384_S128x384_d0)
    (truncf .bf16 (exp2 (subf S (broadcastTo S384x512 (top S r) broadcasts_S1x512_S384x512))) bitsLt_bf16_f32)
    (constant S128x512 .f32 0x00000000#32)

/-- The four heads' results, a column for each query. -/
def mixed (V0 V1 V2 : FVec Ideal S64x128 .bf16) (S : FVec Ideal S384x512 .f32) (r : FVec Ideal S1x512 .f32) : FVec Ideal S64x512 .f32 :=
  divf (extractStridedSlice S64x512 ![0, 0] (weighted V0 V1 V2 S r) slices_S128x512_o0_0_S64x512)
    (broadcastTo S64x512 (addf (extractStridedSlice S1x512 ![64, 0] (weighted V0 V1 V2 S r) slices_S128x512_o64_0_S1x512)
      (exp2 (subf r (top S r)))) broadcasts_S1x512_S64x512)

/-- The first two heads, a row for each query. -/
def first (M : FVec Ideal S64x512 .f32) : FVec Ideal S128x128 .bf16 :=
  truncf .bf16 (transpose S128x128 [1, 0] (concatenate S128x128 0
    [⟨S64x128, extractStridedSlice S64x128 ![0, 0] M slices_S64x512_o0_0_S64x128⟩,
     ⟨S64x128, extractStridedSlice S64x128 ![0, 128] M slices_S64x512_o0_128_S64x128⟩]
    concatenates_S64x128_S64x128_S128x128_d0) transposes_S128x128_p1_0_S128x128) bitsLt_bf16_f32

/-- The last two heads, a row for each query. -/
def second (M : FVec Ideal S64x512 .f32) : FVec Ideal S128x128 .bf16 :=
  truncf .bf16 (transpose S128x128 [1, 0] (concatenate S128x128 0
    [⟨S64x128, extractStridedSlice S64x128 ![0, 256] M slices_S64x512_o0_256_S64x128⟩,
     ⟨S64x128, extractStridedSlice S64x128 ![0, 384] M slices_S64x512_o0_384_S64x128⟩]
    concatenates_S64x128_S64x128_S128x128_d0) transposes_S128x128_p1_0_S128x128) bitsLt_bf16_f32

theorem lanes_at (r d : Fin 128) : lanes (ix2 r d) = if d.val < 64 then 1#1 else 0#1 :=
  (by decide +kernel : ∀ d : Fin 128, lanes (ix2 0 d) = if d.val < 64 then 1#1 else 0#1) d

theorem slot_at (c : Fin 512) : slot (ix2 0 c) = BitVec.ofNat 32 (c.val / 128) :=
  (by decide +kernel : ∀ c : Fin 512, slot (ix2 0 c) = BitVec.ofNat 32 (c.val / 128)) c

theorem first_at (M : FVec Ideal S64x512 .f32) (r : Fin 128) (l : Fin 128) :
    first M (ix2 r l) = M (ix2 ⟨l.val % 64, by omega⟩ ⟨128 * (l.val / 64) + r.val, by omega⟩) := by
  pointwise [first]
  by_cases h : l.val < 64
  · exact (dif_pos h).trans (congrArg₂ (fun a b => M (ix2 a b)) (Fin.ext (show l.val = l.val % 64 by omega)) (Fin.ext (show r.val = 128 * (l.val / 64) + r.val by omega)))
  · exact (dif_neg h).trans (congrArg₂ (fun a b => M (ix2 a b)) (Fin.ext (show l.val - 64 = l.val % 64 by omega)) (Fin.ext (show 128 + r.val = 128 * (l.val / 64) + r.val by omega)))

theorem second_at (M : FVec Ideal S64x512 .f32) (r : Fin 128) (l : Fin 128) :
    second M (ix2 r l) = M (ix2 ⟨l.val % 64, by omega⟩ ⟨128 * (2 + l.val / 64) + r.val, by omega⟩) := by
  pointwise [second]
  by_cases h : l.val < 64
  · exact (dif_pos h).trans (congrArg₂ (fun a b => M (ix2 a b)) (Fin.ext (show l.val = l.val % 64 by omega)) (Fin.ext (show 256 + r.val = 128 * (2 + l.val / 64) + r.val by omega)))
  · exact (dif_neg h).trans (congrArg₂ (fun a b => M (ix2 a b)) (Fin.ext (show l.val - 64 = l.val % 64 by omega)) (Fin.ext (show 384 + r.val = 128 * (2 + l.val / 64) + r.val by omega)))

theorem even_at (Q : FVec Ideal S128x128 .bf16) (r d : Fin 128) :
    even Q (ix2 r d) = if d.val < 64 then Q (ix2 r d) else 0 := by
  pointwise [even]
  rw [lanes_at]
  split_ifs <;> rfl

theorem odd_at (Q : FVec Ideal S128x128 .bf16) (r d : Fin 128) :
    odd Q (ix2 r d) = if d.val < 64 then 0 else Q (ix2 r d) := by
  pointwise [odd]
  rw [lanes_at]
  split_ifs <;> rfl

/-- Three blocks of keys in a row. -/
def keys (K0 K1 K2 : FVec Ideal S128x128 .bf16) (k : Fin 384) (d : Fin 128) : EReal :=
  if h : k.val < 128 then K0 (ix2 ⟨k.val, h⟩ d)
  else if h : k.val - 128 < 128 then K1 (ix2 ⟨k.val - 128, h⟩ d) else K2 (ix2 ⟨k.val - 128 - 128, by omega⟩ d)

/-- Three blocks of values in a row. -/
def vals (V0 V1 V2 : FVec Ideal S64x128 .bf16) (e : Fin 64) (k : Fin 384) : EReal :=
  if h : k.val < 128 then V0 (ix2 e ⟨k.val, h⟩)
  else if h : k.val - 128 < 128 then V1 (ix2 e ⟨k.val - 128, h⟩) else V2 (ix2 e ⟨k.val - 128 - 128, by omega⟩)

/-- The masks of the three blocks of keys: none on the middle one. -/
def hide (Ma Mb : Vec Ideal S1x128x512 .f32) (k : Fin 384) (c : Fin 512) : EReal :=
  if h : k.val < 128 then Ma (ix3 0 ⟨k.val, h⟩ c)
  else if h : k.val - 128 < 128 then 0 else Mb (ix3 0 ⟨k.val - 128 - 128, by omega⟩ c)

/-- The query of a head, zero on the lanes of the head beside it. -/
def query (Qa Qb : FVec Ideal S128x128 .bf16) (r : Fin 128) (d : Fin 128) : Fin 4 → EReal
  | 0 => if d.val < 64 then Qa (ix2 r d) else 0
  | 1 => if d.val < 64 then 0 else Qa (ix2 r d)
  | 2 => if d.val < 64 then Qb (ix2 r d) else 0
  | 3 => if d.val < 64 then 0 else Qb (ix2 r d)

/-- One of four. -/
def among (s0 s1 s2 s3 : EReal) : Fin 4 → EReal
  | 0 => s0
  | 1 => s1
  | 2 => s2
  | 3 => s3

theorem raw_at (K0 K1 K2 Qa Qb : FVec Ideal S128x128 .bf16) (k : Fin 384) (h : Fin 4) (r : Fin 128) :
    raw K0 K1 K2 Qa Qb (ix2 k ⟨128 * h.val + r.val, by omega⟩) = ∑ d, keys K0 K1 K2 k d * query Qa Qb r d h := by
  pointwise [raw]
  refine Finset.sum_congr rfl fun d _ => ?_
  refine congrArg (keys K0 K1 K2 k d * ·) ?_
  match h with
  | 0 =>
    refine (dif_pos (show 128 * 0 + r.val < 128 by omega)).trans ?_
    exact (congrArg (fun x => even Qa (ix2 x d)) (Fin.ext (show 128 * 0 + r.val = r.val by omega))).trans (even_at Qa r d)
  | 1 =>
    refine (dif_neg (show ¬ 128 * 1 + r.val < 128 by omega)).trans ?_
    refine (dif_pos (show 128 * 1 + r.val - 128 < 128 by omega)).trans ?_
    exact (congrArg (fun x => odd Qa (ix2 x d)) (Fin.ext (show 128 * 1 + r.val - 128 = r.val by omega))).trans (odd_at Qa r d)
  | 2 =>
    refine (dif_neg (show ¬ 128 * 2 + r.val < 128 by omega)).trans ?_
    refine (dif_neg (show ¬ 128 * 2 + r.val - 128 < 128 by omega)).trans ?_
    refine (dif_pos (show 128 * 2 + r.val - 128 - 128 < 128 by omega)).trans ?_
    exact (congrArg (fun x => even Qb (ix2 x d)) (Fin.ext (show 128 * 2 + r.val - 128 - 128 = r.val by omega))).trans (even_at Qb r d)
  | 3 =>
    refine (dif_neg (show ¬ 128 * 3 + r.val < 128 by omega)).trans ?_
    refine (dif_neg (show ¬ 128 * 3 + r.val - 128 < 128 by omega)).trans ?_
    refine (dif_neg (show ¬ 128 * 3 + r.val - 128 - 128 < 128 by omega)).trans ?_
    exact (congrArg (fun x => odd Qb (ix2 x d)) (Fin.ext (show 128 * 3 + r.val - 128 - 128 - 128 = r.val by omega))).trans (odd_at Qb r d)

theorem scores_at (R : FVec Ideal S384x512 .f32) (Ma Mb : Vec Ideal S1x128x512 .f32) (k : Fin 384) (c : Fin 512) :
    scores R Ma Mb (ix2 k c) = R (ix2 k c) + hide Ma Mb k c := by
  pointwise [scores]
  by_cases h0 : k.val < 128
  · exact (dif_pos h0).trans (congrArg (R (ix2 k c) + ·) (show hide Ma Mb k c = Ma (ix3 0 ⟨k.val, h0⟩ c) from dif_pos h0).symm)
  by_cases h1 : k.val - 128 < 128
  · refine (dif_neg h0).trans ((dif_pos h1).trans ?_)
    rw [show hide Ma Mb k c = 0 from (dif_neg h0).trans (dif_pos h1), add_zero]
    exact congrArg (fun x => R (ix2 x c)) (Fin.ext (show 128 + (k.val - 128) = k.val by omega))
  · refine (dif_neg h0).trans ((dif_neg h1).trans ?_)
    rw [show hide Ma Mb k c = Mb (ix3 0 ⟨k.val - 128 - 128, by omega⟩ c) from (dif_neg h0).trans (dif_neg h1)]
    exact congrArg (fun x => R (ix2 x c) + Mb (ix3 0 ⟨k.val - 128 - 128, by omega⟩ c)) (Fin.ext (show 256 + (k.val - 128 - 128) = k.val by omega))

theorem put_at (n : ℕ) (hn : n < 4) (s : Ideal .f32) (r : FVec Ideal S1x512 .f32) (c : Fin 512) :
    put (BitVec.ofNat 32 n) s r (ix2 0 c) = if c.val / 128 = n then s * (Cert.Soft.L : EReal) else r (ix2 0 c) := by
  pointwise [put]
  rw [slot_at, show (Named.named κ "log2e" 1069066811#32 : Ideal .f32) = (Cert.Soft.L : EReal) from rfl]
  have hc : c.val / 128 < 4 := by omega
  generalize c.val / 128 = a at hc
  have h : ∀ a n : Fin 4, IntOp.cmpi .eq (BitVec.ofNat 32 a.val) (BitVec.ofNat 32 n.val) = if a.val = n.val then 1#1 else 0#1 := by decide
  rw [h ⟨a, hc⟩ ⟨n, hn⟩]
  split_ifs <;> rfl

theorem sinks_at (s0 s1 s2 s3 : Ideal .f32) (h : Fin 4) (r : Fin 128) :
    sinks s0 s1 s2 s3 (ix2 0 ⟨128 * h.val + r.val, by omega⟩) = among s0 s1 s2 s3 h * (Cert.Soft.L : EReal) := by
  unfold sinks
  have e : (128 * h.val + r.val) / 128 = h.val := by omega
  rw [put_at 3 (by omega), put_at 2 (by omega), put_at 1 (by omega), put_at 0 (by omega)]
  simp only [e]
  match h with
  | 0 => rfl
  | 1 => rfl
  | 2 => rfl
  | 3 => rfl

/-- One row of attention with a sink: the weighted values over the sum of the weights. -/
def late (s : Fin 384 → EReal) (z : EReal) (v : Fin 384 → EReal) : EReal :=
  Ideal.div (∑ x, v x * Ideal.exp2 (s x - max (Finset.fold max (Ideal.ofBits .f32 4286578688#32) s Finset.univ) z))
    (∑ x, Ideal.exp2 (s x - max (Finset.fold max (Ideal.ofBits .f32 4286578688#32) s Finset.univ) z)
      + Ideal.exp2 (z - max (Finset.fold max (Ideal.ofBits .f32 4286578688#32) s Finset.univ) z))

theorem mixed_at (V0 V1 V2 : FVec Ideal S64x128 .bf16) (S : FVec Ideal S384x512 .f32) (r : FVec Ideal S1x512 .f32) (e : Fin 64) (c : Fin 512) :
    mixed V0 V1 V2 S r (ix2 e c) = late (fun k => S (ix2 k c)) (r (ix2 0 c)) (vals V0 V1 V2 e) := by
  pointwise [mixed, weighted, top]
  rfl

/-- An entry of a tile, from the blocks the tile is made of. -/
theorem tile_at (K0 K1 K2 Qa Qb : FVec Ideal S128x128 .bf16) (V0 V1 V2 : FVec Ideal S64x128 .bf16) (Ma Mb : Vec Ideal S1x128x512 .f32)
    (s0 s1 s2 s3 : Ideal .f32) (h : Fin 4) (r : Fin 128) (e : Fin 64) :
    mixed V0 V1 V2 (scores (raw K0 K1 K2 Qa Qb) Ma Mb) (sinks s0 s1 s2 s3) (ix2 e ⟨128 * h.val + r.val, by omega⟩)
      = late (fun k => (∑ d, keys K0 K1 K2 k d * query Qa Qb r d h) + hide Ma Mb k ⟨128 * h.val + r.val, by omega⟩)
        (among s0 s1 s2 s3 h * (Cert.Soft.L : EReal)) (vals V0 V1 V2 e) := by
  rw [mixed_at, sinks_at]
  congr 1
  funext k
  rw [scores_at, raw_at]

theorem inb_q (t g : ℕ) (ht : t < 16) (hg : g < 4) : ∀ a, (![128 * t, 128 * g] : Fin 2 → ℕ) a + S128x128.size a ≤ S2048x512.size a := by
  intro a; match a with
  | ⟨0, _⟩ => show 128 * t + 128 ≤ 2048; omega
  | ⟨1, _⟩ => show 128 * g + 128 ≤ 512; omega
theorem inb_e (g : ℕ) (hg : g < 2) : ∀ a, (![0, 128 * g] : Fin 2 → ℕ) a + S128x128.size a ≤ S128x256.size a := by
  intro a; match a with
  | ⟨0, _⟩ => show 0 + 128 ≤ 128; omega
  | ⟨1, _⟩ => show 128 * g + 128 ≤ 256; omega
theorem inb_k (t g : ℕ) (ht : t < 16) (hg : g < 2) : ∀ a, (![128 * t, 128 * g] : Fin 2 → ℕ) a + S128x128.size a ≤ S2048x256.size a := by
  intro a; match a with
  | ⟨0, _⟩ => show 128 * t + 128 ≤ 2048; omega
  | ⟨1, _⟩ => show 128 * g + 128 ≤ 256; omega
theorem inb_v (t g : ℕ) (ht : t < 16) (hg : g < 2) : ∀ a, (![64 * g, 128 * t] : Fin 2 → ℕ) a + S64x128.size a ≤ S128x2048.size a := by
  intro a; match a with
  | ⟨0, _⟩ => show 64 * g + 64 ≤ 128; omega
  | ⟨1, _⟩ => show 128 * t + 128 ≤ 2048; omega
theorem inb_w (g : ℕ) (hg : g < 2) : ∀ a, (![64 * g, 0] : Fin 2 → ℕ) a + S64x128.size a ≤ S128x128.size a := by
  intro a; match a with
  | ⟨0, _⟩ => show 64 * g + 64 ≤ 128; omega
  | ⟨1, _⟩ => show 0 + 128 ≤ 128; omega
theorem inb_s (k : ℕ) (hk : k < 8) : ∀ a, (![k] : Fin 1 → ℕ) a + S1.size a ≤ S8.size a := by
  intro a; match a with
  | ⟨0, _⟩ => show k + 1 ≤ 8; omega

section
variable (x0 : Vec Ideal S8 .f32) (x4 : Vec Ideal S2048x512 .bf16) (x5 x7 : Vec Ideal S128x256 .bf16) (x6 : Vec Ideal S2048x256 .bf16)
  (x8 x10 : Vec Ideal S128x128 .bf16) (x9 : Vec Ideal S128x2048 .bf16)

def qB (t g : ℕ) (ht : t < 16) (hg : g < 4) : FVec Ideal S128x128 .bf16 :=
  View.ld x4 (Rect.unit ![128 * t, 128 * g] S128x128.size (inb_q t g ht hg))
def kE (g : ℕ) (hg : g < 2) : FVec Ideal S128x128 .bf16 := View.ld x5 (Rect.unit ![0, 128 * g] S128x128.size (inb_e g hg))
def kB (t g : ℕ) (ht : t < 16) (hg : g < 2) : FVec Ideal S128x128 .bf16 :=
  View.ld x6 (Rect.unit ![128 * t, 128 * g] S128x128.size (inb_k t g ht hg))
def vE (g : ℕ) (hg : g < 2) : FVec Ideal S64x128 .bf16 := View.ld x8 (Rect.unit ![64 * g, 0] S64x128.size (inb_w g hg))
def vB (t g : ℕ) (ht : t < 16) (hg : g < 2) : FVec Ideal S64x128 .bf16 :=
  View.ld x9 (Rect.unit ![64 * g, 128 * t] S64x128.size (inb_v t g ht hg))
def sk (k : ℕ) (hk : k < 8) : Ideal .f32 := View.ld x0 (Rect.unit ![k] S1.size (inb_s k hk)) (Shape.Idx.first (show 0 < S1.numel by decide))
def mA (M : Vec Ideal S1x384x512 .f32) : Vec Ideal S1x128x512 .f32 := View.ld M (Rect.unit ![0, 0, 0] S1x128x512.size inb_S1x384x512_S1x128x512_0_0_0)
def mB (M : Vec Ideal S1x384x512 .f32) : Vec Ideal S1x128x512 .f32 := View.ld M (Rect.unit ![0, 256, 0] S1x128x512.size inb_S1x384x512_S1x128x512_0_256_0)

def mix (g t : ℕ) (hg : g < 2) (ht : t < 16) (M : Vec Ideal S1x384x512 .f32) (K0 K1 K2 : FVec Ideal S128x128 .bf16)
    (V0 V1 V2 : FVec Ideal S64x128 .bf16) : FVec Ideal S64x512 .f32 :=
  mixed V0 V1 V2 (scores (raw K0 K1 K2 (qB x4 t (2 * g) ht (by omega)) (qB x4 t (2 * g + 1) ht (by omega))) (mA M) (mB M))
    (sinks (sk x0 (4 * g) (by omega)) (sk x0 (4 * g + 1) (by omega)) (sk x0 (4 * g + 2) (by omega)) (sk x0 (4 * g + 3) (by omega)))

def mid (g t : ℕ) (hg : g < 2) (h0 : 0 < t) (ht : t < 15) (M : Vec Ideal S1x384x512 .f32) : FVec Ideal S64x512 .f32 :=
  mix x0 x4 g t hg (by omega) M (kB x6 (t - 1) g (by omega) hg) (kB x6 t g (by omega) hg) (kB x6 (t + 1) g (by omega) hg)
    (vB x9 (t - 1) g (by omega) hg) (vB x9 t g (by omega) hg) (vB x9 (t + 1) g (by omega) hg)
def beg (g : ℕ) (hg : g < 2) (M : Vec Ideal S1x384x512 .f32) : FVec Ideal S64x512 .f32 :=
  mix x0 x4 g 0 hg (by omega) M (kE x5 g hg) (kB x6 0 g (by omega) hg) (kB x6 1 g (by omega) hg)
    (vE x8 g hg) (vB x9 0 g (by omega) hg) (vB x9 1 g (by omega) hg)
def fin (g : ℕ) (hg : g < 2) (M : Vec Ideal S1x384x512 .f32) : FVec Ideal S64x512 .f32 :=
  mix x0 x4 g 15 hg (by omega) M (kB x6 14 g (by omega) hg) (kB x6 15 g (by omega) hg) (kE x7 g hg)
    (vB x9 14 g (by omega) hg) (vB x9 15 g (by omega) hg) (vE x10 g hg)
end

end Cert.AttnIdeal.Tile

end
-- ==== Proof.AttnRow.lean ====
/- One row of windowed attention with a sink: late division and exponentials to the base two against early
   division and natural exponentials, over scores some of which are the least extended real. -/
module

public import proofs.«01_k».proof.Proof.AttnTile
public import proofs.«01_k».proof.Proof.Soft

@[expose] public section

noncomputable section

open Idealize.ShloMosaic Idealize.ShloMosaic.TcCoe Idealize.SL.Sem

namespace Cert.AttnRow

open Cert.Soft Cert.AttnIdeal.Tile

/-- The largest of the scores and the sink. -/
def peak {n : ℕ} (S : Fin n → EReal) (z : EReal) : EReal := max (Finset.univ.fold max ⊥ S) z

/-- The sum the exponentials are divided by. -/
def total {n : ℕ} (S : Fin n → EReal) (z : EReal) : EReal := ∑ x, Ideal.exp (S x - peak S z) + Ideal.exp (z - peak S z)

/-- The weight of one position. -/
def weight {n : ℕ} (S : Fin n → EReal) (z : EReal) (a : Fin n) : EReal := Ideal.div (Ideal.exp (S a - peak S z)) (total S z)

section
variable {n : ℕ} {S : Fin n → EReal} {z : EReal} (hS : ∀ a, S a ≠ ⊤) (hz : Fine z)
include hS hz

theorem peak_fine : Fine (peak S z) := by
  refine fine_of (ne_of_lt (max_lt (lt_top_iff_ne_top.mpr (fold_ne_top _ _ fun a _ => hS a)) (lt_top_iff_ne_top.mpr hz.ne_top))) fun h => ?_
  have h1 : z ≤ peak S z := le_max_right _ _
  rw [h, le_bot_iff] at h1
  exact hz.ne_bot h1

theorem total_pos : ∃ r : ℝ, 0 < r ∧ total S z = (r : EReal) := by
  have hM := peak_fine hS hz
  obtain ⟨q, hq, hQ⟩ := exp_pos hz hM
  obtain ⟨r, hr⟩ := fine_sum Finset.univ (fun a => Ideal.exp (S a - peak S z)) fun a _ => (exp_fine (hS a) hM).imp fun _ h => h.2
  have h0 : 0 ≤ r := by
    refine EReal.coe_nonneg.mp ?_
    rw [← hr]
    refine Finset.sum_nonneg fun a _ => ?_
    obtain ⟨x, hx, he⟩ := exp_fine (hS a) hM
    rw [he]
    exact EReal.coe_nonneg.mpr hx
  refine ⟨r + q, by linarith, ?_⟩
  unfold total
  rw [hr, hQ, EReal.coe_add]

theorem weight_zero {a : Fin n} (ha : S a = ⊥) : weight S z a = 0 := by
  obtain ⟨r, hr, hR⟩ := total_pos hS hz
  have h : Ideal.exp (S a - peak S z) = 0 := by
    rw [ha, EReal.bot_sub]
    rfl
  unfold weight
  rw [h, hR, Ideal.div_coe hr.ne', zero_mul]

/-- Values at hidden positions do not matter. -/
theorem swap {v w : Fin n → EReal} (hv : ∀ a, S a = ⊥ ∨ v a = w a) : ∑ a, v a * weight S z a = ∑ a, w a * weight S z a := by
  refine Finset.sum_congr rfl fun a _ => ?_
  rcases hv a with h | h
  · rw [weight_zero hS hz h, mul_zero, mul_zero]
  · rw [h]

end

theorem late_row {S : Fin 384 → EReal} {z : EReal} (hS : ∀ a, S a ≠ ⊤) (hz : Fine z) (v : Fin 384 → EReal) :
    late (fun a => S a * (L : EReal)) (z * (L : EReal)) v = ∑ a, v a * weight S z a := by
  have hM := peak_fine hS hz
  have hm : Monotone fun x : EReal => x * (L : EReal) := fun x y h =>
    mul_le_mul_of_nonneg_right h (EReal.coe_nonneg.mpr L_pos.le)
  have hp : max (Finset.univ.fold max (Ideal.ofBits .f32 4286578688#32) fun a => S a * (L : EReal)) (z * (L : EReal)) = peak S z * (L : EReal) := by
    rw [low_eq, fold_mul]
    exact (hm.map_max).symm
  unfold late
  rw [hp, exp2_eq hz.ne_top hM]
  have he : ∀ a, Ideal.exp2 (S a * (L : EReal) - peak S z * (L : EReal)) = Ideal.exp (S a - peak S z) := fun a => exp2_eq (hS a) hM
  simp only [he]
  have hq := quot (fun a => Ideal.exp (S a - peak S z)) v (total_pos hS hz)
  refine Eq.trans ?_ hq
  unfold total
  congr 1
  exact Finset.sum_congr rfl fun a _ => mul_comm _ _

variable {s3 s2 s1 : Shape}

/-- The scale of the scores, as the programs write it. -/
def eighth : EReal := Ideal.ofBits .f32 1040187392#32

theorem eighth_real : ∃ r : ℝ, 0 ≤ r ∧ eighth = (r : EReal) := by
  refine ⟨1 / 8, by norm_num, ?_⟩
  simp [eighth, Ideal.ofBits, Ideal.ieee, -EReal.coe_mul]
  norm_num

/-- The positions of a block and its neighbours that a row of the block attends to. -/
def near (t r k : ℕ) : Prop := r ≤ k ∧ k ≤ r + 256 ∧ 128 ≤ 128 * t + k ∧ 128 * t + k < 2176

instance (t r k : ℕ) : Decidable (near t r k) := by unfold near; infer_instance

/-- An array of sequences read at natural positions. -/
def at3 {n k : ℕ} [NeZero n] [NeZero k] (A : (⟨3, ![16, n, k]⟩ : Shape).Idx → EReal) (b : Fin 16) (i j : ℕ) : EReal :=
  A (ix3 b (Fin.ofNat n i) (Fin.ofNat k j))

variable (Q : (⟨3, ![16, 2048, 512]⟩ : Shape).Idx → EReal) (K V : (⟨3, ![16, 2048, 128]⟩ : Shape).Idx → EReal) (s : (⟨1, ![8]⟩ : Shape).Idx → EReal)

/-- A score: row `r` of block `t` against position `k` of the block and its neighbours, head `h` of group `g`. -/
def score (b : Fin 16) (t r g h : ℕ) (k : Fin 384) : EReal :=
  if near t r k then (∑ d : Fin 64, at3 Q b (128 * t + r) (256 * g + 64 * h + d) * at3 K b (128 * t + k - 128) (64 * g + d)) * eighth else ⊥

def sink (g h : ℕ) : EReal := s (ix1 (Fin.ofNat 8 (4 * g + h)))

/-- An entry of the attention. -/
def row (b : Fin 16) (t r g h e : ℕ) : EReal :=
  ∑ k : Fin 384, at3 V b (128 * t + k - 128) (64 * g + e) * weight (score Q K b t r g h) (sink s g h) k

theorem score_ne_top (hQ : ∀ i, Fine (Q i)) (hK : ∀ i, Fine (K i)) (b : Fin 16) (t r g h : ℕ) (k : Fin 384) : score Q K b t r g h k ≠ ⊤ := by
  obtain ⟨c, _, hc⟩ := eighth_real
  unfold score
  split_ifs
  · exact ((fine_sum _ _ fun d _ => (hQ _).mul (hK _)).mul ⟨c, hc⟩).ne_top
  · exact bot_ne_top

/-- The scaled score, as a tile computes it: queries scaled first, the mask added. -/
theorem score_scaled (b : Fin 16) (t r g h : ℕ) (k : Fin 384) : score Q K b t r g h k * (L : EReal)
    = (∑ d : Fin 64, (at3 Q b (128 * t + r) (256 * g + 64 * h + d) * eighth * (L : EReal)) * at3 K b (128 * t + k - 128) (64 * g + d))
      + if near t r k then 0 else ⊥ := by
  obtain ⟨c, h0, hc⟩ := eighth_real
  unfold score
  rw [hc, Soft.score _ _ h0]
  split_ifs
  · rw [add_zero]
  · rw [EReal.bot_mul_of_pos (EReal.coe_pos.mpr L_pos), EReal.add_bot]

theorem at3_mk {n k : ℕ} [NeZero n] [NeZero k] (A : (⟨3, ![16, n, k]⟩ : Shape).Idx → EReal) (b : Fin 16) (i : Fin n) (j : Fin k) (x y : ℕ)
    (hx : i.val = x) (hy : j.val = y) : A (ix3 b i j) = at3 A b x y := by
  subst hx hy
  unfold at3
  congr 2 <;> exact (Fin.ext (Nat.mod_eq_of_lt (Fin.isLt _))).symm

end Cert.AttnRow
end
-- ==== Proof.AttnValue.lean ====
/- The windowed attention the call leaves, read at an entry. -/
module

public import proofs.«01_k».proof.Proof.AttnHost
public import proofs.«01_k».proof.Proof.AttnRow

@[expose] public section

set_option maxRecDepth 65536

noncomputable section

open Idealize.ShloMosaic Idealize.ShloMosaic.TcCoe Idealize.SL.Sem

namespace Cert.AttnIdeal.Closed

open Cert.AttnIdeal Cert.AttnIdeal.Gen Cert.AttnIdeal.Tile Cert.AttnRow Cert.Soft

theorem lower (k q : Fin 128 → EReal) : ∑ d, k d * (if d.val < 64 then q d else 0)
    = ∑ d : Fin 64, q ⟨d.val, by omega⟩ * k ⟨d.val, by omega⟩ := by
  refine (Fin.sum_univ_add (a := 64) (b := 64) fun d : Fin 128 => k d * (if d.val < 64 then q d else 0)).trans ?_
  rw [Finset.sum_eq_zero (s := Finset.univ) (f := fun i : Fin 64 => k (Fin.natAdd 64 i) * (if (Fin.natAdd 64 i).val < 64 then q (Fin.natAdd 64 i) else 0)), add_zero]
  · refine Finset.sum_congr rfl fun d _ => ?_
    rw [if_pos (show (Fin.castAdd 64 d).val < 64 from d.isLt), mul_comm]
    rfl
  · intro d _
    rw [if_neg (show ¬ (Fin.natAdd 64 d).val < 64 from not_lt.2 (Nat.le_add_right 64 d.val)), mul_zero]

theorem upper (k q : Fin 128 → EReal) : ∑ d, k d * (if d.val < 64 then 0 else q d)
    = ∑ d : Fin 64, q ⟨64 + d.val, by omega⟩ * k ⟨64 + d.val, by omega⟩ := by
  refine (Fin.sum_univ_add (a := 64) (b := 64) fun d : Fin 128 => k d * (if d.val < 64 then 0 else q d)).trans ?_
  rw [Finset.sum_eq_zero (s := Finset.univ) (f := fun i : Fin 64 => k (Fin.castAdd 64 i) * (if (Fin.castAdd 64 i).val < 64 then 0 else q (Fin.castAdd 64 i))), zero_add]
  · refine Finset.sum_congr rfl fun d _ => ?_
    rw [if_neg (show ¬ (Fin.natAdd 64 d).val < 64 from not_lt.2 (Nat.le_add_right 64 d.val)), mul_comm]
    rfl
  · intro d _
    rw [if_pos (show (Fin.castAdd 64 d).val < 64 from d.isLt), mul_zero]

theorem hide_at (M : Vec Ideal S1x384x512 .f32) (a t : ℕ) (ht : t < 16) (ha : a = 0 ↔ t = 0) (hb : a = 2 ↔ t = 15)
    (hM : ∀ (k : Fin 384) (j : Fin 512), M (ix3 0 k j)
      = (if (j.val % 128 ≤ k.val ∧ k.val ≤ j.val % 128 + 256) ∧ (a = 0 → 128 ≤ k.val) ∧ (a = 2 → k.val < 256) then 0 else ⊥ : EReal))
    (k : Fin 384) (j : Fin 512) : hide (mA M) (mB M) k j = if near t (j.val % 128) k.val then 0 else ⊥ := by
  have hA : ∀ h1 : k.val < 128, mA M (ix3 0 ⟨k.val, h1⟩ j) = M (ix3 0 k j) := fun h1 =>
    View.ld_unit_apply_of _ _ _ _ _ _ (fun a => match a with | ⟨0, _⟩ => rfl | ⟨1, _⟩ => (Nat.zero_add _).symm | ⟨2, _⟩ => (Nat.zero_add _).symm)
  have hB : ∀ (h1 : ¬ k.val < 128) (h2 : ¬ k.val - 128 < 128), mB M (ix3 0 ⟨k.val - 128 - 128, by omega⟩ j) = M (ix3 0 k j) := fun h1 h2 =>
    View.ld_unit_apply_of _ _ _ _ _ _ (fun a => match a with
      | ⟨0, _⟩ => rfl | ⟨1, _⟩ => (show k.val = 256 + (k.val - 128 - 128) by omega) | ⟨2, _⟩ => (Nat.zero_add _).symm)
  unfold hide
  by_cases h1 : k.val < 128
  · rw [dif_pos h1, hA h1, hM]
    exact ite_congr (propext (by unfold near; omega)) (fun _ => rfl) (fun _ => rfl)
  · rw [dif_neg h1]
    by_cases h2 : k.val - 128 < 128
    · exact (dif_pos h2).trans (if_pos (show near t (j.val % 128) k.val by unfold near; omega)).symm
    · rw [dif_neg h2, hB h1 h2, hM]
      exact ite_congr (propext (by unfold near; omega)) (fun _ => rfl) (fun _ => rfl)

section
variable (Q : (⟨3, ![16, 2048, 512]⟩ : Shape).Idx → EReal) (K V : (⟨3, ![16, 2048, 128]⟩ : Shape).Idx → EReal) (s : (⟨1, ![8]⟩ : Shape).Idx → EReal)
  (b : Fin 16) (x0 : Vec Ideal S8 .f32) (x4 : Vec Ideal S2048x512 .bf16)

theorem query_sum (h4 : ∀ (y : Fin 2048) (k : Fin 512), x4 (ix2 y k) = Q (ix3 b y k) * eighth * (L : EReal))
    (t g : ℕ) (ht : t < 16) (hg : g < 2) (h : Fin 4) (r : Fin 128) (f : Fin 128 → EReal) (n : ℕ) (hf : ∀ d : Fin 128, f d = at3 K b n (64 * g + d.val % 64)) :
    ∑ d, f d * query (qB x4 t (2 * g) ht (by omega)) (qB x4 t (2 * g + 1) ht (by omega)) r d h
      = ∑ d : Fin 64, (at3 Q b (128 * t + r.val) (256 * g + 64 * h.val + d.val) * eighth * (L : EReal)) * at3 K b n (64 * g + d.val) := by
  have hq : ∀ (g' : ℕ) (hg' : g' < 4) (d : Fin 128), qB x4 t g' ht hg' (ix2 r d)
      = at3 Q b (128 * t + r.val) (128 * g' + d.val) * eighth * (L : EReal) := by
    intro g' hg' d
    rw [show qB x4 t g' ht hg' (ix2 r d) = x4 (ix2 ⟨128 * t + r.val, by omega⟩ ⟨128 * g' + d.val, by omega⟩) from
      View.ld_unit_apply_of _ _ _ _ _ _ (fun a => match a with | ⟨0, _⟩ => rfl | ⟨1, _⟩ => rfl), h4,
      at3_mk Q b _ _ _ _ rfl rfl]
  match h with
  | 0 =>
    refine (lower _ _).trans (Finset.sum_congr rfl fun d _ => ?_)
    rw [hq, hf]
    congr 4 <;> simp only [Fin.val_zero] <;> omega
  | 1 =>
    refine (upper _ _).trans (Finset.sum_congr rfl fun d _ => ?_)
    rw [hq, hf]
    congr 4 <;> simp only [Fin.val_one] <;> omega
  | 2 =>
    refine (lower _ _).trans (Finset.sum_congr rfl fun d _ => ?_)
    rw [hq, hf]
    congr 4 <;> simp only [Fin.val_two] <;> omega
  | 3 =>
    refine (upper _ _).trans (Finset.sum_congr rfl fun d _ => ?_)
    rw [hq, hf]
    congr 4 <;> simp only [show ((3 : Fin 4)).val = 3 from rfl] <;> omega

theorem sink_at (hs : ∀ h : Fin 8, x0 (ix1 h) = s (ix1 h)) (g : ℕ) (hg : g < 2) (h : Fin 4) :
    among (sk x0 (4 * g) (by omega)) (sk x0 (4 * g + 1) (by omega)) (sk x0 (4 * g + 2) (by omega)) (sk x0 (4 * g + 3) (by omega)) h
      = sink s g h.val := by
  have hk : ∀ (k : ℕ) (hk : k < 8), sk x0 k hk = s (ix1 (Fin.ofNat 8 k)) := by
    intro k hk
    rw [← hs]
    exact View.ld_unit_apply_of _ _ _ _ _ _ (fun a => match a with | ⟨0, _⟩ => Nat.mod_eq_of_lt hk)
  match h with
  | 0 => exact hk (4 * g) (by omega)
  | 1 => exact hk (4 * g + 1) (by omega)
  | 2 => exact hk (4 * g + 2) (by omega)
  | 3 => exact hk (4 * g + 3) (by omega)

/-- A tile's entry is the attention's. -/
theorem mix_row (hQ : ∀ i, Fine (Q i)) (hK : ∀ i, Fine (K i)) (hS : ∀ i, Fine (s i))
    (hs : ∀ h : Fin 8, x0 (ix1 h) = s (ix1 h)) (h4 : ∀ (y : Fin 2048) (k : Fin 512), x4 (ix2 y k) = Q (ix3 b y k) * eighth * (L : EReal))
    (g t : ℕ) (hg : g < 2) (ht : t < 16) (M : Vec Ideal S1x384x512 .f32)
    (hM : ∀ (k : Fin 384) (j : Fin 512), hide (mA M) (mB M) k j = if near t (j.val % 128) k.val then 0 else ⊥)
    (K0 K1 K2 : FVec Ideal S128x128 .bf16) (V0 V1 V2 : FVec Ideal S64x128 .bf16)
    (k0 : 0 < t → ∀ k d : Fin 128, K0 (ix2 k d) = at3 K b (128 * t - 128 + k.val) (64 * g + d.val % 64))
    (k1 : ∀ k d : Fin 128, K1 (ix2 k d) = at3 K b (128 * t + k.val) (64 * g + d.val % 64))
    (k2 : t < 15 → ∀ k d : Fin 128, K2 (ix2 k d) = at3 K b (128 * t + 128 + k.val) (64 * g + d.val % 64))
    (v0 : 0 < t → ∀ (e : Fin 64) (k : Fin 128), V0 (ix2 e k) = at3 V b (128 * t - 128 + k.val) (64 * g + e.val))
    (v1 : ∀ (e : Fin 64) (k : Fin 128), V1 (ix2 e k) = at3 V b (128 * t + k.val) (64 * g + e.val))
    (v2 : t < 15 → ∀ (e : Fin 64) (k : Fin 128), V2 (ix2 e k) = at3 V b (128 * t + 128 + k.val) (64 * g + e.val))
    (h : Fin 4) (r : Fin 128) (e : Fin 64) :
    mix x0 x4 g t hg ht M K0 K1 K2 V0 V1 V2 (ix2 e ⟨128 * h.val + r.val, by omega⟩) = row Q K V s b t r g h e := by
  have hk : ∀ k : Fin 384, near t r.val k.val → ∀ d, keys K0 K1 K2 k d = at3 K b (128 * t + k.val - 128) (64 * g + d.val % 64) := by
    intro k hn d
    unfold near at hn
    unfold keys
    split_ifs with h1 h2
    · rw [k0 (by omega)]; congr 1; show 128 * t - 128 + k.val = _; omega
    · rw [k1]; congr 1; show 128 * t + (k.val - 128) = _; omega
    · rw [k2 (by omega)]; congr 1; show 128 * t + 128 + (k.val - 128 - 128) = _; omega
  have hv : ∀ k : Fin 384, near t r.val k.val → vals V0 V1 V2 e k = at3 V b (128 * t + k.val - 128) (64 * g + e.val) := by
    intro k hn
    unfold near at hn
    unfold vals
    split_ifs with h1 h2
    · rw [v0 (by omega)]; congr 1; show 128 * t - 128 + k.val = _; omega
    · rw [v1]; congr 1; show 128 * t + (k.val - 128) = _; omega
    · rw [v2 (by omega)]; congr 1; show 128 * t + 128 + (k.val - 128 - 128) = _; omega
  unfold mix
  rw [tile_at]
  have hs1 : (fun k : Fin 384 => (∑ d, keys K0 K1 K2 k d * query (qB x4 t (2 * g) ht (by omega)) (qB x4 t (2 * g + 1) ht (by omega)) r d h)
      + hide (mA M) (mB M) k ⟨128 * h.val + r.val, by omega⟩) = fun k => score Q K b t r g h k * (L : EReal) := by
    funext k
    rw [score_scaled, hM, show (128 * h.val + r.val) % 128 = r.val by omega]
    by_cases hn : near t r.val k.val
    · rw [query_sum Q K b x4 h4 t g ht hg h r _ _ (hk k hn)]
    · rw [if_neg hn, EReal.add_bot, EReal.add_bot]
  rw [hs1, show among _ _ _ _ _ = sink s g h.val from sink_at s x0 hs g hg h, late_row (z := sink s g h.val) (score_ne_top Q K hQ hK b t r g h) (hS _)]
  refine swap (score_ne_top Q K hQ hK b t r g h) (hS _) fun k => ?_
  by_cases hn : near t r.val k.val
  · exact Or.inr (hv k hn)
  · exact Or.inl (if_neg hn)

/-- The attention of sequence `b` at row `i` and column `j`. -/
def entry (i j : ℕ) : EReal := row Q K V s b (i / 128) (i % 128) (j / 256) (j % 256 / 64) (j % 64)

theorem first_row (M : FVec Ideal S64x512 .f32) (t g : ℕ) (hM : ∀ (h : Fin 4) (r : Fin 128) (e : Fin 64),
    M (ix2 e ⟨128 * h.val + r.val, by omega⟩) = row Q K V s b t r g h e) (r l : Fin 128) (i j : ℕ) (hi : i = 128 * t + r.val) (hj : j = 256 * g + l.val) :
    first M (ix2 r l) = entry Q K V s b i j := by
  have h := hM ⟨l.val / 64, by omega⟩ r ⟨l.val % 64, by omega⟩
  rw [first_at]
  refine h.trans ?_
  unfold entry
  rw [show i / 128 = t by omega, show i % 128 = r.val by omega, show j / 256 = g by omega, show j % 256 / 64 = l.val / 64 by omega,
    show j % 64 = l.val % 64 by omega]

theorem second_row (M : FVec Ideal S64x512 .f32) (t g : ℕ) (hM : ∀ (h : Fin 4) (r : Fin 128) (e : Fin 64),
    M (ix2 e ⟨128 * h.val + r.val, by omega⟩) = row Q K V s b t r g h e) (r l : Fin 128) (i j : ℕ) (hi : i = 128 * t + r.val) (hj : j = 256 * g + 128 + l.val) :
    second M (ix2 r l) = entry Q K V s b i j := by
  have h := hM ⟨2 + l.val / 64, by omega⟩ r ⟨l.val % 64, by omega⟩
  rw [second_at]
  refine h.trans ?_
  unfold entry
  rw [show i / 128 = t by omega, show i % 128 = r.val by omega, show j / 256 = g by omega, show j % 256 / 64 = 2 + l.val / 64 by omega,
    show j % 64 = l.val % 64 by omega]

end

end Cert.AttnIdeal.Closed
end
-- ==== Proof.AttnBlock.lean ====
/- The block of the call at a grid point, and the array the call leaves. -/
module

public import proofs.«01_k».proof.Proof.AttnValue

@[expose] public section

set_option maxRecDepth 65536

noncomputable section

open Idealize.ShloMosaic Idealize.ShloMosaic.TcCoe Idealize.SL.Sem

namespace Cert.AttnIdeal.Closed

open Cert.AttnIdeal Cert.AttnIdeal.Gen Cert.AttnIdeal.Tile Cert.AttnRow Cert.Soft

variable (m : (ℓ : Loc nD τ sig) → Buf (Elt Ideal) ℓ) (c : Dev nD) (p : Fin cfg0.N)

/-- The arrays the attention reads are finite. -/
def Finite : Prop := (∀ i, Fine (m ((c : Thread nD τ).loc main_arg0) i)) ∧ (∀ i, Fine (m ((c : Thread nD τ).loc main_arg1) i))
  ∧ ∀ i, Fine (m ((c : Thread nD τ).loc main_arg3) i)

/-- The attention of the grid point's sequence at row `i` and column `j`. -/
def cell (i j : ℕ) : EReal := entry (m ((c : Thread nD τ).loc main_arg0)) (m ((c : Thread nD τ).loc main_arg1))
  (m ((c : Thread nD τ).loc main_arg2)) (m ((c : Thread nD τ).loc main_arg3)) ⟨p.val, p.isLt⟩ i j

/-- A tile holds the attention of block `t` and group `g`. -/
def Holds (t g : ℕ) (M : FVec Ideal S64x512 .f32) : Prop := ∀ (h : Fin 4) (r : Fin 128) (e : Fin 64),
  M (ix2 e ⟨128 * h.val + r.val, by omega⟩) = row (m ((c : Thread nD τ).loc main_arg0)) (m ((c : Thread nD τ).loc main_arg1))
    (m ((c : Thread nD τ).loc main_arg2)) (m ((c : Thread nD τ).loc main_arg3)) ⟨p.val, p.isLt⟩ t r g h e

theorem key_at (t g : ℕ) (ht : t < 16) (hg : g < 2) (n : ℕ) (hn : n = 128 * t) (k d : Fin 128) : kB (iblk m c 6 p) t g ht hg (ix2 k d)
    = at3 (m ((c : Thread nD τ).loc main_arg1)) ⟨p.val, p.isLt⟩ (n + k.val) (64 * g + d.val % 64) := by
  subst hn
  rw [show kB (iblk m c 6 p) t g ht hg (ix2 k d) = iblk m c 6 p (ix2 ⟨128 * t + k.val, by omega⟩ ⟨128 * g + d.val, by omega⟩) from
    View.ld_unit_apply_of _ _ _ _ _ _ (fun a => match a with | ⟨0, _⟩ => rfl | ⟨1, _⟩ => rfl), Host.read6]
  exact at3_mk _ _ _ _ _ _ rfl (show 64 * ((128 * g + d.val) / 128) + (128 * g + d.val) % 64 = 64 * g + d.val % 64 by omega)

theorem value_at (t g : ℕ) (ht : t < 16) (hg : g < 2) (n : ℕ) (hn : n = 128 * t) (e : Fin 64) (k : Fin 128) : vB (iblk m c 9 p) t g ht hg (ix2 e k)
    = at3 (m ((c : Thread nD τ).loc main_arg2)) ⟨p.val, p.isLt⟩ (n + k.val) (64 * g + e.val) := by
  subst hn
  rw [show vB (iblk m c 9 p) t g ht hg (ix2 e k) = iblk m c 9 p (ix2 ⟨64 * g + e.val, by omega⟩ ⟨128 * t + k.val, by omega⟩) from
    View.ld_unit_apply_of _ _ _ _ _ _ (fun a => match a with | ⟨0, _⟩ => rfl | ⟨1, _⟩ => rfl), Host.read9]
  exact at3_mk _ _ _ _ _ _ rfl rfl

variable (hf : Finite m c)
include hf

theorem mid_holds (g t : ℕ) (hg : g < 2) (h0 : 0 < t) (ht : t < 15) :
    Holds m c p t g (mid (iblk m c 0 p) (iblk m c 4 p) (iblk m c 6 p) (iblk m c 9 p) g t hg h0 ht (iblk m c 2 p)) :=
  mix_row _ _ _ _ _ _ _ hf.1 hf.2.1 hf.2.2 (Host.read0 m c p) (Host.read4 m c p) g t hg (by omega) _
    (hide_at _ (1 : Fin 3).val t (by omega) ⟨fun h => absurd h (by decide), fun h => by omega⟩ ⟨fun h => absurd h (by decide), fun h => by omega⟩
      fun k j => (Host.read2 m c p k j).trans (Host.masks m c 1 k j)) _ _ _ _ _ _
    (fun _ => key_at m c p (t - 1) g _ hg _ (by omega)) (key_at m c p t g _ hg _ rfl) (fun _ => key_at m c p (t + 1) g _ hg _ (by omega))
    (fun _ => value_at m c p (t - 1) g _ hg _ (by omega)) (value_at m c p t g _ hg _ rfl) (fun _ => value_at m c p (t + 1) g _ hg _ (by omega))

theorem beg_holds (g : ℕ) (hg : g < 2) : Holds m c p 0 g
    (beg (iblk m c 0 p) (iblk m c 4 p) (iblk m c 5 p) (iblk m c 6 p) (iblk m c 8 p) (iblk m c 9 p) g hg (iblk m c 1 p)) :=
  mix_row _ _ _ _ _ _ _ hf.1 hf.2.1 hf.2.2 (Host.read0 m c p) (Host.read4 m c p) g 0 hg (by omega) _
    (hide_at _ (0 : Fin 3).val 0 (by omega) ⟨fun _ => rfl, fun _ => rfl⟩ ⟨fun h => absurd h (by decide), fun h => by omega⟩
      fun k j => (Host.read1 m c p k j).trans (Host.masks m c 0 k j)) _ _ _ _ _ _
    (fun h => absurd h (lt_irrefl 0)) (key_at m c p 0 g _ hg _ rfl) (fun _ => key_at m c p 1 g _ hg _ rfl)
    (fun h => absurd h (lt_irrefl 0)) (value_at m c p 0 g _ hg _ rfl) (fun _ => value_at m c p 1 g _ hg _ rfl)

theorem fin_holds (g : ℕ) (hg : g < 2) : Holds m c p 15 g
    (fin (iblk m c 0 p) (iblk m c 4 p) (iblk m c 7 p) (iblk m c 6 p) (iblk m c 10 p) (iblk m c 9 p) g hg (iblk m c 3 p)) :=
  mix_row _ _ _ _ _ _ _ hf.1 hf.2.1 hf.2.2 (Host.read0 m c p) (Host.read4 m c p) g 15 hg (by omega) _
    (hide_at _ (2 : Fin 3).val 15 (by omega) ⟨fun h => absurd h (by decide), fun h => by omega⟩ ⟨fun _ => rfl, fun _ => rfl⟩
      fun k j => (Host.read3 m c p k j).trans (Host.masks m c 2 k j)) _ _ _ _ _ _
    (fun _ => key_at m c p 14 g _ hg _ rfl) (key_at m c p 15 g _ hg _ rfl) (fun h => absurd h (lt_irrefl 15))
    (fun _ => value_at m c p 14 g _ hg _ rfl) (value_at m c p 15 g _ hg _ rfl) (fun h => absurd h (lt_irrefl 15))

omit hf in
theorem first_cell {t g : ℕ} {M : FVec Ideal S64x512 .f32} (hM : Holds m c p t g M) {r l : Fin 128} {i j : ℕ} (hi : i = 128 * t + r.val)
    (hj : j = 256 * g + l.val) : first M (ix2 r l) = cell m c p i j := first_row _ _ _ _ _ M t g hM r l i j hi hj

omit hf in
theorem second_cell {t g : ℕ} {M : FVec Ideal S64x512 .f32} (hM : Holds m c p t g M) {r l : Fin 128} {i j : ℕ} (hi : i = 128 * t + r.val)
    (hj : j = 256 * g + 128 + l.val) : second M (ix2 r l) = cell m c p i j := second_row _ _ _ _ _ M t g hM r l i j hi hj

set_option maxHeartbeats 40000000 in
/-- The block's entry is the attention's. -/
theorem block_at (y : S2048x512.Idx) : outsAt0 m c p y = cell m c p (y 0).val (y 1).val := by
  unfold outsAt0
  frame_out
  canon_tiles x h
  case piece0 => idx_vars x; (repeat rw [Memref.IsWhole.read_unread]); have e := second_cell m c p (r := x0) (l := x1) (i := (y 0).val) (j := (y 1).val) (fin_holds m c p hf 1 (by decide)) (by omega) (by omega); exact e
  case piece1 => idx_vars x; (repeat rw [Memref.IsWhole.read_unread]); have e := first_cell m c p (r := x0) (l := x1) (i := (y 0).val) (j := (y 1).val) (fin_holds m c p hf 1 (by decide)) (by omega) (by omega); exact e
  case piece2 => idx_vars x; (repeat rw [Memref.IsWhole.read_unread]); have e := second_cell m c p (r := x0) (l := x1) (i := (y 0).val) (j := (y 1).val) (mid_holds m c p hf 1 14 (by decide) (by decide) (by decide)) (by omega) (by omega); exact e
  case piece3 => idx_vars x; (repeat rw [Memref.IsWhole.read_unread]); have e := first_cell m c p (r := x0) (l := x1) (i := (y 0).val) (j := (y 1).val) (mid_holds m c p hf 1 14 (by decide) (by decide) (by decide)) (by omega) (by omega); exact e
  case piece4 => idx_vars x; (repeat rw [Memref.IsWhole.read_unread]); have e := second_cell m c p (r := x0) (l := x1) (i := (y 0).val) (j := (y 1).val) (mid_holds m c p hf 1 13 (by decide) (by decide) (by decide)) (by omega) (by omega); exact e
  case piece5 => idx_vars x; (repeat rw [Memref.IsWhole.read_unread]); have e := first_cell m c p (r := x0) (l := x1) (i := (y 0).val) (j := (y 1).val) (mid_holds m c p hf 1 13 (by decide) (by decide) (by decide)) (by omega) (by omega); exact e
  case piece6 => idx_vars x; (repeat rw [Memref.IsWhole.read_unread]); have e := second_cell m c p (r := x0) (l := x1) (i := (y 0).val) (j := (y 1).val) (mid_holds m c p hf 1 12 (by decide) (by decide) (by decide)) (by omega) (by omega); exact e
  case piece7 => idx_vars x; (repeat rw [Memref.IsWhole.read_unread]); have e := first_cell m c p (r := x0) (l := x1) (i := (y 0).val) (j := (y 1).val) (mid_holds m c p hf 1 12 (by decide) (by decide) (by decide)) (by omega) (by omega); exact e
  case piece8 => idx_vars x; (repeat rw [Memref.IsWhole.read_unread]); have e := second_cell m c p (r := x0) (l := x1) (i := (y 0).val) (j := (y 1).val) (mid_holds m c p hf 1 11 (by decide) (by decide) (by decide)) (by omega) (by omega); exact e
  case piece9 => idx_vars x; (repeat rw [Memref.IsWhole.read_unread]); have e := first_cell m c p (r := x0) (l := x1) (i := (y 0).val) (j := (y 1).val) (mid_holds m c p hf 1 11 (by decide) (by decide) (by decide)) (by omega) (by omega); exact e
  case piece10 => idx_vars x; (repeat rw [Memref.IsWhole.read_unread]); have e := second_cell m c p (r := x0) (l := x1) (i := (y 0).val) (j := (y 1).val) (mid_holds m c p hf 1 10 (by decide) (by decide) (by decide)) (by omega) (by omega); exact e
  case piece11 => idx_vars x; (repeat rw [Memref.IsWhole.read_unread]); have e := first_cell m c p (r := x0) (l := x1) (i := (y 0).val) (j := (y 1).val) (mid_holds m c p hf 1 10 (by decide) (by decide) (by decide)) (by omega) (by omega); exact e
  case piece12 => idx_vars x; (repeat rw [Memref.IsWhole.read_unread]); have e := second_cell m c p (r := x0) (l := x1) (i := (y 0).val) (j := (y 1).val) (mid_holds m c p hf 1 9 (by decide) (by decide) (by decide)) (by omega) (by omega); exact e
  case piece13 => idx_vars x; (repeat rw [Memref.IsWhole.read_unread]); have e := first_cell m c p (r := x0) (l := x1) (i := (y 0).val) (j := (y 1).val) (mid_holds m c p hf 1 9 (by decide) (by decide) (by decide)) (by omega) (by omega); exact e
  case piece14 => idx_vars x; (repeat rw [Memref.IsWhole.read_unread]); have e := second_cell m c p (r := x0) (l := x1) (i := (y 0).val) (j := (y 1).val) (mid_holds m c p hf 1 8 (by decide) (by decide) (by decide)) (by omega) (by omega); exact e
  case piece15 => idx_vars x; (repeat rw [Memref.IsWhole.read_unread]); have e := first_cell m c p (r := x0) (l := x1) (i := (y 0).val) (j := (y 1).val) (mid_holds m c p hf 1 8 (by decide) (by decide) (by decide)) (by omega) (by omega); exact e
  case piece16 => idx_vars x; (repeat rw [Memref.IsWhole.read_unread]); have e := second_cell m c p (r := x0) (l := x1) (i := (y 0).val) (j := (y 1).val) (mid_holds m c p hf 1 7 (by decide) (by decide) (by decide)) (by omega) (by omega); exact e
  case piece17 => idx_vars x; (repeat rw [Memref.IsWhole.read_unread]); have e := first_cell m c p (r := x0) (l := x1) (i := (y 0).val) (j := (y 1).val) (mid_holds m c p hf 1 7 (by decide) (by decide) (by decide)) (by omega) (by omega); exact e
  case piece18 => idx_vars x; (repeat rw [Memref.IsWhole.read_unread]); have e := second_cell m c p (r := x0) (l := x1) (i := (y 0).val) (j := (y 1).val) (mid_holds m c p hf 1 6 (by decide) (by decide) (by decide)) (by omega) (by omega); exact e
  case piece19 => idx_vars x; (repeat rw [Memref.IsWhole.read_unread]); have e := first_cell m c p (r := x0) (l := x1) (i := (y 0).val) (j := (y 1).val) (mid_holds m c p hf 1 6 (by decide) (by decide) (by decide)) (by omega) (by omega); exact e
  case piece20 => idx_vars x; (repeat rw [Memref.IsWhole.read_unread]); have e := second_cell m c p (r := x0) (l := x1) (i := (y 0).val) (j := (y 1).val) (mid_holds m c p hf 1 5 (by decide) (by decide) (by decide)) (by omega) (by omega); exact e
  case piece21 => idx_vars x; (repeat rw [Memref.IsWhole.read_unread]); have e := first_cell m c p (r := x0) (l := x1) (i := (y 0).val) (j := (y 1).val) (mid_holds m c p hf 1 5 (by decide) (by decide) (by decide)) (by omega) (by omega); exact e
  case piece22 => idx_vars x; (repeat rw [Memref.IsWhole.read_unread]); have e := second_cell m c p (r := x0) (l := x1) (i := (y 0).val) (j := (y 1).val) (mid_holds m c p hf 1 4 (by decide) (by decide) (by decide)) (by omega) (by omega); exact e
  case piece23 => idx_vars x; (repeat rw [Memref.IsWhole.read_unread]); have e := first_cell m c p (r := x0) (l := x1) (i := (y 0).val) (j := (y 1).val) (mid_holds m c p hf 1 4 (by decide) (by decide) (by decide)) (by omega) (by omega); exact e
  case piece24 => idx_vars x; (repeat rw [Memref.IsWhole.read_unread]); have e := second_cell m c p (r := x0) (l := x1) (i := (y 0).val) (j := (y 1).val) (mid_holds m c p hf 1 3 (by decide) (by decide) (by decide)) (by omega) (by omega); exact e
  case piece25 => idx_vars x; (repeat rw [Memref.IsWhole.read_unread]); have e := first_cell m c p (r := x0) (l := x1) (i := (y 0).val) (j := (y 1).val) (mid_holds m c p hf 1 3 (by decide) (by decide) (by decide)) (by omega) (by omega); exact e
  case piece26 => idx_vars x; (repeat rw [Memref.IsWhole.read_unread]); have e := second_cell m c p (r := x0) (l := x1) (i := (y 0).val) (j := (y 1).val) (mid_holds m c p hf 1 2 (by decide) (by decide) (by decide)) (by omega) (by omega); exact e
  case piece27 => idx_vars x; (repeat rw [Memref.IsWhole.read_unread]); have e := first_cell m c p (r := x0) (l := x1) (i := (y 0).val) (j := (y 1).val) (mid_holds m c p hf 1 2 (by decide) (by decide) (by decide)) (by omega) (by omega); exact e
  case piece28 => idx_vars x; (repeat rw [Memref.IsWhole.read_unread]); have e := second_cell m c p (r := x0) (l := x1) (i := (y 0).val) (j := (y 1).val) (mid_holds m c p hf 1 1 (by decide) (by decide) (by decide)) (by omega) (by omega); exact e
  case piece29 => idx_vars x; (repeat rw [Memref.IsWhole.read_unread]); have e := first_cell m c p (r := x0) (l := x1) (i := (y 0).val) (j := (y 1).val) (mid_holds m c p hf 1 1 (by decide) (by decide) (by decide)) (by omega) (by omega); exact e
  case piece30 => idx_vars x; (repeat rw [Memref.IsWhole.read_unread]); have e := second_cell m c p (r := x0) (l := x1) (i := (y 0).val) (j := (y 1).val) (beg_holds m c p hf 1 (by decide)) (by omega) (by omega); exact e
  case piece31 => idx_vars x; (repeat rw [Memref.IsWhole.read_unread]); have e := first_cell m c p (r := x0) (l := x1) (i := (y 0).val) (j := (y 1).val) (beg_holds m c p hf 1 (by decide)) (by omega) (by omega); exact e
  case piece32 => idx_vars x; (repeat rw [Memref.IsWhole.read_unread]); have e := second_cell m c p (r := x0) (l := x1) (i := (y 0).val) (j := (y 1).val) (fin_holds m c p hf 0 (by decide)) (by omega) (by omega); exact e
  case piece33 => idx_vars x; (repeat rw [Memref.IsWhole.read_unread]); have e := first_cell m c p (r := x0) (l := x1) (i := (y 0).val) (j := (y 1).val) (fin_holds m c p hf 0 (by decide)) (by omega) (by omega); exact e
  case piece34 => idx_vars x; (repeat rw [Memref.IsWhole.read_unread]); have e := second_cell m c p (r := x0) (l := x1) (i := (y 0).val) (j := (y 1).val) (mid_holds m c p hf 0 14 (by decide) (by decide) (by decide)) (by omega) (by omega); exact e
  case piece35 => idx_vars x; (repeat rw [Memref.IsWhole.read_unread]); have e := first_cell m c p (r := x0) (l := x1) (i := (y 0).val) (j := (y 1).val) (mid_holds m c p hf 0 14 (by decide) (by decide) (by decide)) (by omega) (by omega); exact e
  case piece36 => idx_vars x; (repeat rw [Memref.IsWhole.read_unread]); have e := second_cell m c p (r := x0) (l := x1) (i := (y 0).val) (j := (y 1).val) (mid_holds m c p hf 0 13 (by decide) (by decide) (by decide)) (by omega) (by omega); exact e
  case piece37 => idx_vars x; (repeat rw [Memref.IsWhole.read_unread]); have e := first_cell m c p (r := x0) (l := x1) (i := (y 0).val) (j := (y 1).val) (mid_holds m c p hf 0 13 (by decide) (by decide) (by decide)) (by omega) (by omega); exact e
  case piece38 => idx_vars x; (repeat rw [Memref.IsWhole.read_unread]); have e := second_cell m c p (r := x0) (l := x1) (i := (y 0).val) (j := (y 1).val) (mid_holds m c p hf 0 12 (by decide) (by decide) (by decide)) (by omega) (by omega); exact e
  case piece39 => idx_vars x; (repeat rw [Memref.IsWhole.read_unread]); have e := first_cell m c p (r := x0) (l := x1) (i := (y 0).val) (j := (y 1).val) (mid_holds m c p hf 0 12 (by decide) (by decide) (by decide)) (by omega) (by omega); exact e
  case piece40 => idx_vars x; (repeat rw [Memref.IsWhole.read_unread]); have e := second_cell m c p (r := x0) (l := x1) (i := (y 0).val) (j := (y 1).val) (mid_holds m c p hf 0 11 (by decide) (by decide) (by decide)) (by omega) (by omega); exact e
  case piece41 => idx_vars x; (repeat rw [Memref.IsWhole.read_unread]); have e := first_cell m c p (r := x0) (l := x1) (i := (y 0).val) (j := (y 1).val) (mid_holds m c p hf 0 11 (by decide) (by decide) (by decide)) (by omega) (by omega); exact e
  case piece42 => idx_vars x; (repeat rw [Memref.IsWhole.read_unread]); have e := second_cell m c p (r := x0) (l := x1) (i := (y 0).val) (j := (y 1).val) (mid_holds m c p hf 0 10 (by decide) (by decide) (by decide)) (by omega) (by omega); exact e
  case piece43 => idx_vars x; (repeat rw [Memref.IsWhole.read_unread]); have e := first_cell m c p (r := x0) (l := x1) (i := (y 0).val) (j := (y 1).val) (mid_holds m c p hf 0 10 (by decide) (by decide) (by decide)) (by omega) (by omega); exact e
  case piece44 => idx_vars x; (repeat rw [Memref.IsWhole.read_unread]); have e := second_cell m c p (r := x0) (l := x1) (i := (y 0).val) (j := (y 1).val) (mid_holds m c p hf 0 9 (by decide) (by decide) (by decide)) (by omega) (by omega); exact e
  case piece45 => idx_vars x; (repeat rw [Memref.IsWhole.read_unread]); have e := first_cell m c p (r := x0) (l := x1) (i := (y 0).val) (j := (y 1).val) (mid_holds m c p hf 0 9 (by decide) (by decide) (by decide)) (by omega) (by omega); exact e
  case piece46 => idx_vars x; (repeat rw [Memref.IsWhole.read_unread]); have e := second_cell m c p (r := x0) (l := x1) (i := (y 0).val) (j := (y 1).val) (mid_holds m c p hf 0 8 (by decide) (by decide) (by decide)) (by omega) (by omega); exact e
  case piece47 => idx_vars x; (repeat rw [Memref.IsWhole.read_unread]); have e := first_cell m c p (r := x0) (l := x1) (i := (y 0).val) (j := (y 1).val) (mid_holds m c p hf 0 8 (by decide) (by decide) (by decide)) (by omega) (by omega); exact e
  case piece48 => idx_vars x; (repeat rw [Memref.IsWhole.read_unread]); have e := second_cell m c p (r := x0) (l := x1) (i := (y 0).val) (j := (y 1).val) (mid_holds m c p hf 0 7 (by decide) (by decide) (by decide)) (by omega) (by omega); exact e
  case piece49 => idx_vars x; (repeat rw [Memref.IsWhole.read_unread]); have e := first_cell m c p (r := x0) (l := x1) (i := (y 0).val) (j := (y 1).val) (mid_holds m c p hf 0 7 (by decide) (by decide) (by decide)) (by omega) (by omega); exact e
  case piece50 => idx_vars x; (repeat rw [Memref.IsWhole.read_unread]); have e := second_cell m c p (r := x0) (l := x1) (i := (y 0).val) (j := (y 1).val) (mid_holds m c p hf 0 6 (by decide) (by decide) (by decide)) (by omega) (by omega); exact e
  case piece51 => idx_vars x; (repeat rw [Memref.IsWhole.read_unread]); have e := first_cell m c p (r := x0) (l := x1) (i := (y 0).val) (j := (y 1).val) (mid_holds m c p hf 0 6 (by decide) (by decide) (by decide)) (by omega) (by omega); exact e
  case piece52 => idx_vars x; (repeat rw [Memref.IsWhole.read_unread]); have e := second_cell m c p (r := x0) (l := x1) (i := (y 0).val) (j := (y 1).val) (mid_holds m c p hf 0 5 (by decide) (by decide) (by decide)) (by omega) (by omega); exact e
  case piece53 => idx_vars x; (repeat rw [Memref.IsWhole.read_unread]); have e := first_cell m c p (r := x0) (l := x1) (i := (y 0).val) (j := (y 1).val) (mid_holds m c p hf 0 5 (by decide) (by decide) (by decide)) (by omega) (by omega); exact e
  case piece54 => idx_vars x; (repeat rw [Memref.IsWhole.read_unread]); have e := second_cell m c p (r := x0) (l := x1) (i := (y 0).val) (j := (y 1).val) (mid_holds m c p hf 0 4 (by decide) (by decide) (by decide)) (by omega) (by omega); exact e
  case piece55 => idx_vars x; (repeat rw [Memref.IsWhole.read_unread]); have e := first_cell m c p (r := x0) (l := x1) (i := (y 0).val) (j := (y 1).val) (mid_holds m c p hf 0 4 (by decide) (by decide) (by decide)) (by omega) (by omega); exact e
  case piece56 => idx_vars x; (repeat rw [Memref.IsWhole.read_unread]); have e := second_cell m c p (r := x0) (l := x1) (i := (y 0).val) (j := (y 1).val) (mid_holds m c p hf 0 3 (by decide) (by decide) (by decide)) (by omega) (by omega); exact e
  case piece57 => idx_vars x; (repeat rw [Memref.IsWhole.read_unread]); have e := first_cell m c p (r := x0) (l := x1) (i := (y 0).val) (j := (y 1).val) (mid_holds m c p hf 0 3 (by decide) (by decide) (by decide)) (by omega) (by omega); exact e
  case piece58 => idx_vars x; (repeat rw [Memref.IsWhole.read_unread]); have e := second_cell m c p (r := x0) (l := x1) (i := (y 0).val) (j := (y 1).val) (mid_holds m c p hf 0 2 (by decide) (by decide) (by decide)) (by omega) (by omega); exact e
  case piece59 => idx_vars x; (repeat rw [Memref.IsWhole.read_unread]); have e := first_cell m c p (r := x0) (l := x1) (i := (y 0).val) (j := (y 1).val) (mid_holds m c p hf 0 2 (by decide) (by decide) (by decide)) (by omega) (by omega); exact e
  case piece60 => idx_vars x; (repeat rw [Memref.IsWhole.read_unread]); have e := second_cell m c p (r := x0) (l := x1) (i := (y 0).val) (j := (y 1).val) (mid_holds m c p hf 0 1 (by decide) (by decide) (by decide)) (by omega) (by omega); exact e
  case piece61 => idx_vars x; (repeat rw [Memref.IsWhole.read_unread]); have e := first_cell m c p (r := x0) (l := x1) (i := (y 0).val) (j := (y 1).val) (mid_holds m c p hf 0 1 (by decide) (by decide) (by decide)) (by omega) (by omega); exact e
  case piece62 => idx_vars x; (repeat rw [Memref.IsWhole.read_unread]); have e := second_cell m c p (r := x0) (l := x1) (i := (y 0).val) (j := (y 1).val) (beg_holds m c p hf 0 (by decide)) (by omega) (by omega); exact e
  case piece63 => idx_vars x; (repeat rw [Memref.IsWhole.read_unread]); have e := first_cell m c p (r := x0) (l := x1) (i := (y 0).val) (j := (y 1).val) (beg_holds m c p hf 0 (by decide)) (by omega) (by omega); exact e

omit hf in
theorem cell_congr {p q : Fin cfg0.N} {i j i' j' : ℕ} (hp : p.val = q.val) (hi : i = i') (hj : j = j') : cell m c p i j = cell m c q i' j' := by
  obtain rfl := Fin.ext hp
  subst hi hj
  rfl

set_option maxHeartbeats 2000000 in
/-- The array the call leaves. -/
theorem final : (dats m 0 c).arrAt 11 (cfgs 0).N = fun i : S32768x512.Idx =>
    cell m c ⟨(i 0).val / 2048, by have := (i 0).isLt; change (i 0).val < 32768 at this; show (i 0).val / 2048 < 16; omega⟩ ((i 0).val % 2048) (i 1).val := by
  refine (dats m 0 c).arrAt_eq_of_covers 11 _ (by decide +kernel) fun t _ y => ?_
  rw [after0_11]
  refine (block_at m c t hf y).trans (cell_congr m c ?_ ?_ ?_)
  · have ht : t.val < 16 := t.isLt
    idx_vars y
    blk_simp [Host.idx t]
    omega
  · have ht : t.val < 16 := t.isLt
    idx_vars y
    blk_simp [Host.idx t]
    omega
  · idx_vars y
    blk_simp [Host.idx t]

end Cert.AttnIdeal.Closed
end
-- ==== Proof.AttnRef.lean ====
/- The reference's windowed attention, read at an index. -/
module

public import proofs.«01_k».proof.Proof.AttnRow
public import proofs.«01_k».proof.Proof.Gen.AttnRefIdeal.Read

@[expose] public section

set_option maxRecDepth 65536

noncomputable section

open Idealize.ShloMosaic Idealize.ShloMosaic.TcCoe Idealize.SL.Sem

namespace Cert.AttnRefIdeal.Closed

open Cert.AttnRefIdeal Cert.AttnRefIdeal.Gen Cert.AttnRefIdeal.Read Cert.AttnRow Cert.Soft

/-- The largest entry of the last axis. -/
theorem max_at (v : FVec Ideal S16x16x2x4x128x385 .f32) (c : FVec Ideal S_ .f32) (b t : Fin 16) (g : Fin 2) (h : Fin 4) (r : Fin 128) :
    Host.reduce FloatOps.maximumf v c reducesTo_S16x16x2x4x128x385_S16x16x2x4x128_d5 h_S_ (ix5 b t g h r)
      = Finset.univ.fold max (c (Shape.Idx.first h_S_)) fun k : Fin 385 => v (ix6 b t g h r k) := by
  refine (Host.reduce_eq_fold_single _ v c reducesTo_S16x16x2x4x128x385_S16x16x2x4x128_d5 (by decide) h_S_ (ix5 b t g h r)).trans ?_
  refine congrArg (fun f => Finset.univ.fold max (c (Shape.Idx.first h_S_)) f) (funext fun k => congrArg v (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

/-- Scores with the sink behind them. -/
def full {n : ℕ} (S : Fin n → EReal) (z : EReal) (k : Fin (n + 1)) : EReal := if h : k.val < n then S ⟨k.val, h⟩ else z

theorem full_cast {n : ℕ} (S : Fin n → EReal) (z : EReal) (k : Fin n) : full S z k.castSucc = S k := dif_pos k.isLt

theorem full_last {n : ℕ} (S : Fin n → EReal) (z : EReal) : full S z (Fin.last n) = z := dif_neg (lt_irrefl n)

theorem full_max {n : ℕ} (S : Fin n → EReal) (z : EReal) : max ⊥ (Finset.univ.fold max ⊥ (full S z)) = peak S z := by
  rw [max_eq_right bot_le]
  have h : ∀ {m : ℕ} (f : Fin m → EReal), Finset.univ.fold max ⊥ f = Finset.univ.sup f := fun f => rfl
  unfold peak
  rw [h, h]
  refine le_antisymm (Finset.sup_le fun k _ => ?_) (max_le (Finset.sup_le fun k _ => ?_) ?_)
  · refine Fin.lastCases ?_ (fun k => ?_) k
    · rw [full_last]; exact le_max_right _ _
    · rw [full_cast]; exact (Finset.le_sup (f := S) (Finset.mem_univ k)).trans (le_max_left _ _)
  · rw [← full_cast S z]; exact Finset.le_sup (f := full S z) (Finset.mem_univ _)
  · conv_lhs => rw [← full_last S z]
    exact Finset.le_sup (f := full S z) (Finset.mem_univ _)

theorem full_sum {n : ℕ} (S : Fin n → EReal) (z : EReal) : ∑ k, Ideal.exp (full S z k - peak S z) = total S z := by
  rw [Fin.sum_univ_castSucc, full_last]
  simp only [full_cast]
  rfl

/-- A word holding a small number. -/
theorem word {n : ℤ} (h : -4096 ≤ n ∧ n ≤ 4096) : (BitVec.ofInt 32 n).toInt = n :=
  BitVec.toInt_ofInt_eq_self (by decide) (by norm_num; omega) (by norm_num; omega)

theorem word_sle {a b : ℤ} (ha : -4096 ≤ a ∧ a ≤ 4096) (hb : -4096 ≤ b ∧ b ≤ 4096) :
    (BitVec.ofInt 32 a).sle (BitVec.ofInt 32 b) = decide (a ≤ b) := by
  rw [BitVec.sle_eq_decide, word ha, word hb]

theorem word_slt {a b : ℤ} (ha : -4096 ≤ a ∧ a ≤ 4096) (hb : -4096 ≤ b ∧ b ≤ 4096) :
    (BitVec.ofInt 32 a).slt (BitVec.ofInt 32 b) = decide (a < b) := by
  rw [BitVec.slt_eq_decide, word ha, word hb]

theorem word_abs {a : ℤ} (ha : -4096 ≤ a ∧ a ≤ 4096) : IntOp.absi (BitVec.ofInt 32 a) = BitVec.ofInt 32 |a| := by
  unfold IntOp.absi
  rw [BitVec.msb_eq_toInt, word ha]
  by_cases h : a < 0
  · rw [if_pos (decide_eq_true h), abs_of_neg h, BitVec.ofInt_neg]
  · rw [if_neg (by simpa using h), abs_of_nonneg (not_lt.1 h)]

theorem word_sub (a b : ℤ) : BitVec.ofInt 32 a - BitVec.ofInt 32 b = BitVec.ofInt 32 (a - b) := by
  rw [BitVec.sub_eq_add_neg, ← BitVec.ofInt_neg, ← BitVec.ofInt_add, Int.sub_eq_add_neg]

theorem word_nat (n : ℕ) : BitVec.ofNat 32 n = BitVec.ofInt 32 n := (BitVec.ofInt_natCast 32 n).symm

theorem query_pos (t : Fin 16) (r : Fin 128) : val_main_v27 (F := Ideal) (ix2 t r) = BitVec.ofInt 32 (128 * t.val + r.val) := by
  pointwise [val_main_v27, val_main_v26, val_main_v25, val_main_v24, val_main_v23, val_main_v22, val_main_v21, val_main_v20, val_main_v19, val_main_c_1]
  rw [BitVec.ofInt_add, BitVec.ofInt_mul, word_nat, word_nat, BitVec.mul_comm]
  rfl

theorem key_pos (t : Fin 16) (k : Fin 384) : val_main_v36 (F := Ideal) (ix2 t k) = BitVec.ofInt 32 (128 * t.val + k.val - 128) := by
  pointwise [val_main_v36, val_main_v35, val_main_v34, val_main_v33, val_main_v32, val_main_v31, val_main_v30, val_main_v29, val_main_v28, val_main_v20,
    val_main_v19, val_main_c_3, val_main_c_2]
  rw [show (128 * (t.val : ℤ) + k.val - 128) = 128 * (t.val - 1) + k.val by ring, BitVec.ofInt_add, BitVec.ofInt_mul, ← word_sub, word_nat, word_nat, BitVec.mul_comm]
  rfl

theorem near_at (t : Fin 16) (r : Fin 128) (k : Fin 384) : val_main_v54 (F := Ideal) (ix3 t r k) = BitVec.ofBool (decide (near t r k)) := by
  pointwise [val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_c_4, val_main_c_5, val_main_c_6]
  rw [key_pos, query_pos, show ∀ x y : BitVec 32, IntOp.subi x y = x - y from fun _ _ => rfl, word_sub, word_abs (by omega)]
  have hd : |(128 * (t.val : ℤ) + k.val - 128 - (128 * t.val + r.val))| ≤ 4096 := abs_le.2 (by omega)
  have h0 := abs_nonneg (128 * (t.val : ℤ) + k.val - 128 - (128 * t.val + r.val))
  rw [show ∀ x y : BitVec 32, IntOp.cmpi CmpIPredicate.sle x y = BitVec.ofBool (x.sle y) from fun _ _ => rfl,
    show ∀ x y : BitVec 32, IntOp.cmpi CmpIPredicate.sge x y = BitVec.ofBool (y.sle x) from fun _ _ => rfl,
    show ∀ x y : BitVec 32, IntOp.cmpi CmpIPredicate.slt x y = BitVec.ofBool (x.slt y) from fun _ _ => rfl,
    show (128#32 : BitVec 32) = BitVec.ofInt 32 128 from rfl, show (0#32 : BitVec 32) = BitVec.ofInt 32 0 from rfl,
    show (2048#32 : BitVec 32) = BitVec.ofInt 32 2048 from rfl, word_sle (by omega) (by omega), word_sle (by omega) (by omega), word_slt (by omega) (by omega)]
  have hand : ∀ p q : Bool, IntOp.andi (BitVec.ofBool p) (BitVec.ofBool q) = BitVec.ofBool (p && q) := by decide
  rw [hand, hand, ← Bool.decide_and, ← Bool.decide_and]
  refine congrArg BitVec.ofBool (decide_eq_decide.2 ?_)
  rw [abs_le]
  unfold near
  omega

variable (Q : (⟨S16x2048x512, .f32⟩ : BufTy).Contents (Elt Ideal)) (K V : (⟨S16x2048x128, .f32⟩ : BufTy).Contents (Elt Ideal))
  (s : (⟨S8, .f32⟩ : BufTy).Contents (Elt Ideal))

theorem padded_at (b : Fin 16) (n : Fin 18) (k : Fin 128) (g : Fin 2) (d : Fin 64) (x : ℕ) (hx : 128 * n.val + k.val = x + 128) (h : x < 2048) :
    val_main_v3 (F := Ideal) K (ix5 b n k g d) = at3 K b x (64 * g.val + d.val) := by
  pointwise [val_main_v3, val_main_v2, val_main_v1]
  exact (dif_pos ⟨by omega, by omega⟩).trans (at3_mk K b _ _ _ _ (show n.val * 128 + k.val - 128 = x by omega) (show g.val * 64 + d.val = 64 * g.val + d.val by omega))

theorem window_at (b t : Fin 16) (k : Fin 384) (g : Fin 2) (d : Fin 64) (r : ℕ) (hn : near t r k) :
    val_main_v10 (F := Ideal) K (ix5 b t k g d) = at3 K b (128 * t.val + k.val - 128) (64 * g.val + d.val) := by
  unfold near at hn
  pointwise [val_main_v10, val_main_v9, val_main_v8, val_main_v7]
  by_cases h1 : k.val < 128
  · exact (dif_pos h1).trans (padded_at K b _ _ g d _ (show 128 * t.val + k.val = _ by omega) (by omega))
  · refine (dif_neg h1).trans ?_
    by_cases h2 : k.val - 128 < 128
    · exact (dif_pos h2).trans (padded_at K b _ _ g d _ (show 128 * (1 + t.val) + (k.val - 128) = _ by omega) (by omega))
    · exact (dif_neg h2).trans (padded_at K b _ _ g d _ (show 128 * (2 + t.val) + (k.val - 128 - 128) = _ by omega) (by omega))

theorem window_eq : val_main_v14 (F := Ideal) V = val_main_v10 (F := Ideal) V := rfl

theorem query_at (b t : Fin 16) (r : Fin 128) (g : Fin 2) (h : Fin 4) (d : Fin 64) :
    val_main_v0 (F := Ideal) Q (ix6 b t r g h d) = at3 Q b (128 * t.val + r.val) (256 * g.val + 64 * h.val + d.val) := by
  pointwise [val_main_v0]
  exact at3_mk Q b _ _ _ _ (show t.val * 128 + r.val = _ by omega) (show g.val * 256 + h.val * 64 + d.val = _ by omega)

theorem sink_at (b t : Fin 16) (g : Fin 2) (h : Fin 4) (r : Fin 128) (z : Fin 1) : val_main_v58 (F := Ideal) s (ix6 b t g h r z) = sink s g.val h.val := by
  pointwise [val_main_v58, val_main_v57]
  exact congrArg s (congrArg ix1 (Fin.ext ((show g.val * 4 + h.val = 4 * g.val + h.val by omega).trans (Nat.mod_eq_of_lt (by omega)).symm)))

theorem product_at (b t : Fin 16) (g : Fin 2) (h : Fin 4) (r : Fin 128) (k : Fin 384) : val_main_v18 (F := Ideal) Q K (ix6 b t g h r k)
    = (∑ d : Fin 64, val_main_v10 (F := Ideal) K (ix5 b t k g d) * val_main_v0 (F := Ideal) Q (ix6 b t r g h d)) * eighth := by
  pointwise [val_main_v18, val_main_v17, val_main_v16, val_main_v15, val_main_cst]
  rfl

theorem low_eq : (FloatOps.ofBits .f32 0xFF800000#32 : Ideal .f32) = (⊥ : EReal) := by
  show Ideal.ofBits .f32 0xFF800000#32 = ⊥
  simp [Ideal.ofBits, Ideal.ieee]

theorem score_at (b t : Fin 16) (g : Fin 2) (h : Fin 4) (r : Fin 128) (k : Fin 384) : val_main_v56 (F := Ideal) Q K (ix6 b t g h r k)
    = score Q K b t.val r.val g.val h.val k := by
  rw [val_main_v56_apply, product_at]
  pointwise [val_main_call2_v1, val_main_call2_v2, val_main_call2_v0, val_main_cst_7, val_main_v55]
  rw [near_at]
  unfold AttnRow.score
  by_cases hn : near t.val r.val k.val
  · rw [if_pos hn, decide_eq_true hn]
    refine (if_pos rfl).trans (congrArg (fun x : EReal => x * eighth) (Finset.sum_congr rfl fun d _ => ?_))
    rw [window_at K b t k g d r hn, query_at, mul_comm]
  · rw [if_neg hn, decide_eq_false hn]
    exact (if_neg (by decide)).trans low_eq

theorem full_at (b t : Fin 16) (g : Fin 2) (h : Fin 4) (r : Fin 128) (k : Fin 385) : val_main_v59 (F := Ideal) Q K s (ix6 b t g h r k)
    = full (score Q K b t.val r.val g.val h.val) (sink s g.val h.val) k := by
  have hA := score_at Q K b t g h r
  have hB := sink_at s b t g h r
  unfold val_main_v59 full
  generalize val_main_v56 (F := Ideal) Q K = A at hA ⊢
  generalize val_main_v58 (F := Ideal) s = B at hB ⊢
  pointwise
  by_cases hk : k.val < 384
  · exact (dif_pos hk).trans ((hA _).trans (Eq.symm (dif_pos (c := k.val < 384) hk)))
  · exact (dif_neg hk).trans ((hB _).trans (Eq.symm (dif_neg (c := k.val < 384) hk)))

theorem peak_at (b t : Fin 16) (g : Fin 2) (h : Fin 4) (r : Fin 128) : val_main_v62 (F := Ideal) Q K s (ix5 b t g h r)
    = peak (score Q K b t.val r.val g.val h.val) (sink s g.val h.val) := by
  rw [val_main_v62_apply, val_main_v61_apply, val_main_cst_9_apply, low_eq, ← full_max]
  refine congrArg (max (⊥ : EReal)) ((max_at _ _ b t g h r).trans ?_)
  rw [val_main_cst_8_apply, low_eq]
  exact congrArg (fun f => Finset.fold max ⊥ f Finset.univ) (funext fun k => full_at Q K s b t g h r k)

theorem idx63 (b t : Fin 16) (g : Fin 2) (h : Fin 4) (r : Fin 128) (k : Fin 385) : idx_main_v63 (idx_main_v64 (ix6 b t g h r k)) = ix5 b t g h r := by
  funext d
  match d with
  | ⟨0, _⟩ => rfl
  | ⟨1, _⟩ => rfl
  | ⟨2, _⟩ => rfl
  | ⟨3, _⟩ => rfl
  | ⟨4, _⟩ => rfl

theorem idx68 (b t : Fin 16) (g : Fin 2) (h : Fin 4) (r : Fin 128) (k : Fin 385) : idx_main_v68 (idx_main_v69 (ix6 b t g h r k)) = ix5 b t g h r := by
  funext d
  match d with
  | ⟨0, _⟩ => rfl
  | ⟨1, _⟩ => rfl
  | ⟨2, _⟩ => rfl
  | ⟨3, _⟩ => rfl
  | ⟨4, _⟩ => rfl

theorem idx67 (b t : Fin 16) (g : Fin 2) (h : Fin 4) (r : Fin 128) (k : Fin 385) : idx_main_v67 (ix5 b t g h r) k = ix6 b t g h r k := by
  funext d
  match d with
  | ⟨0, _⟩ => rfl
  | ⟨1, _⟩ => rfl
  | ⟨2, _⟩ => rfl
  | ⟨3, _⟩ => rfl
  | ⟨4, _⟩ => rfl
  | ⟨5, _⟩ => rfl

theorem idx71 (b t : Fin 16) (g : Fin 2) (h : Fin 4) (r : Fin 128) (k : Fin 384) : idx_main_v71 (ix6 b t g h r k) = ix6 b t g h r k.castSucc := by
  funext d
  match d with
  | ⟨0, _⟩ => rfl
  | ⟨1, _⟩ => rfl
  | ⟨2, _⟩ => rfl
  | ⟨3, _⟩ => rfl
  | ⟨4, _⟩ => rfl
  | ⟨5, _⟩ => rfl

/-- One exponential of the reference. -/
theorem exp_at (b t : Fin 16) (g : Fin 2) (h : Fin 4) (r : Fin 128) (k : Fin 385) : val_main_v66 (F := Ideal) Q K s (ix6 b t g h r k)
    = Ideal.exp (full (score Q K b t.val r.val g.val h.val) (sink s g.val h.val) k - peak (score Q K b t.val r.val g.val h.val) (sink s g.val h.val)) := by
  rw [val_main_v66_apply, val_main_v65_apply, val_main_v64_apply, val_main_v63_apply, idx63, peak_at, full_at]
  rfl

theorem weight_at (b t : Fin 16) (g : Fin 2) (h : Fin 4) (r : Fin 128) (k : Fin 384) : val_main_v71 (F := Ideal) Q K s (ix6 b t g h r k)
    = weight (score Q K b t.val r.val g.val h.val) (sink s g.val h.val) k := by
  rw [val_main_v71_apply, idx71, val_main_v70_apply, val_main_v69_apply, val_main_v68_apply, idx68, val_main_v67_apply, exp_at, full_cast]
  simp only [idx67, exp_at, full_sum, val_main_cst_10_apply]
  unfold weight
  refine congrArg (Ideal.div _) ?_
  rw [show (FloatOps.ofBits .f32 0x00000000#32 : Ideal .f32) = (0 : EReal) from by show Ideal.ofBits .f32 0x00000000#32 = 0; simp [Ideal.ofBits, Ideal.ieee], zero_add]

/-- The reference's attention. -/
theorem ref_at (hQ : ∀ i, Fine (Q i)) (hK : ∀ i, Fine (K i)) (hS : ∀ i, Fine (s i)) (i : Fin 32768) (j : Fin 512) :
    val_main_v75 (F := Ideal) Q K V s (ix2 i j)
      = row Q K V s ⟨i.val / 2048, by omega⟩ (i.val % 2048 / 128) (i.val % 2048 % 128) (j.val / 256) (j.val % 256 / 64) (j.val % 64) := by
  have hw := weight_at Q K s
  have hv := window_eq V
  pointwise [val_main_v75, val_main_v74, val_main_v73, val_main_v72]
  simp only [hw, hv]
  rw [show i.val % 2048 / 128 = i.val / 128 % 16 by omega, show i.val % 2048 % 128 = i.val % 128 by omega, show j.val % 256 / 64 = j.val / 64 % 4 by omega]
  refine swap (score_ne_top Q K hQ hK _ _ _ _ _) (hS _) fun k => ?_
  by_cases hn : near (i.val / 128 % 16) (i.val % 128) k.val
  · exact Or.inr (window_at V _ _ k _ _ _ hn)
  · exact Or.inl (if_neg hn)

end Cert.AttnRefIdeal.Closed
end
-- ==== Proof.AttnClaim.lean ====
/- The windowed attention claim: the array the call leaves is the reference's array, wherever the queries, the keys and
   the sinks are real. -/
module

public import proofs.«01_k».proof.Defs
public import proofs.«01_k».proof.Proof.AttnBlock
public import proofs.«01_k».proof.Proof.AttnRef
public import proofs.«01_k».proof.Proof.Gen.Pre_attn_finite
public import Idealize.ShloMosaic.Lib.Claim

@[expose] public section

set_option maxRecDepth 16384

noncomputable section

open Idealize.ShloMosaic Idealize.ShloMosaic.TcCoe Idealize.SL.Sem

namespace Cert.AttnClaim

open Cert.Soft

/-- What the precondition says: the queries, the keys and the sinks are real. -/
theorem pre (A : FVec Ideal Cert.Pre_attn_finite.S16x2048x512 .f32) (B C : FVec Ideal Cert.Pre_attn_finite.S16x2048x128 .f32)
    (D : FVec Ideal Cert.Pre_attn_finite.S8 .f32) [Cert.Pre_attn_finite.Facts] (h : Cert.Pre_attn_finite.fn A B C D = fun _ => 1#1) :
    (∀ i, Fine (A i)) ∧ (∀ i, Fine (B i)) ∧ ∀ i, Fine (D i) := by
  have h0 := congrFun h ix0
  obtain ⟨hab, hd⟩ := IntOp.andi_eq_one.1 h0
  obtain ⟨ha, hb⟩ := IntOp.andi_eq_one.1 hab
  exact ⟨fine_all _ _ (fun i => inf_eq) _ _ _ _ ha, fine_all _ _ (fun i => inf_eq) _ _ _ _ hb, fine_all _ _ (fun i => inf_eq) _ _ _ _ hd⟩

theorem algebraic : Cert.algebraic_AttnIdeal_AttnRefIdeal_pre_attn_finite (hAttnIdeal := Cert.AttnIdeal.Gen.facts)
    (hAttnRefIdeal := Cert.AttnRefIdeal.Gen.facts) (hPre_attn_finite := Cert.Pre_attn_finite.Gen.facts) := by
  pair_intro
  · run_from Cert.AttnIdeal.Gen.run_main m g
    · exact Cert.AttnIdeal.Gen.V_main_arg0 m c
    · exact Cert.AttnIdeal.Gen.V_main_arg1 m c
    · exact Cert.AttnIdeal.Gen.V_main_arg2 m c
  · run_from Cert.AttnRefIdeal.Value.run m' g'
    obtain ⟨h0, h1, h2, h3⟩ := hagree c
    have hf := pre _ _ _ _ (hpre c)
    rw [Cert.AttnRefIdeal.Read.val_main_v75_eq, h0, h1, h2, h3]
    refine Eq.trans ?_ (Cert.AttnIdeal.Closed.final m c hf).symm
    funext i
    idx_vars i
    exact Cert.AttnRefIdeal.Closed.ref_at _ _ _ _ hf.1 hf.2.1 hf.2.2 _ _

end Cert.AttnClaim
end
-- ==== Proof.lean ====
module

public import proofs.«01_k».proof.Defs
public import proofs.«01_k».proof.Proof.Gen.Xattn
public import proofs.«01_k».proof.Proof.Gen.Xattn.Frame
public import proofs.«01_k».proof.Proof.Gen.XattnIdeal
public import proofs.«01_k».proof.Proof.Gen.XattnIdeal.Frame
public import proofs.«01_k».proof.Proof.Gen.XattnRefIdeal
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.Pre_xattn_finite
public import proofs.«01_k».proof.Proof.Gen.Pre_attn_finite
public import proofs.«01_k».proof.Proof.Gen.OutIdeal.Value
public import proofs.«01_k».proof.Proof.Gen.XattnIdeal.Value
public import proofs.«01_k».proof.Proof.Gen.AttnIdeal.Value
public import proofs.«01_k».proof.Proof.Gen.OutRefIdeal.Run
public import proofs.«01_k».proof.Proof.Gen.OutRefIdeal.Read
public import proofs.«01_k».proof.Proof.Gen.XattnRefIdeal.Run
public import proofs.«01_k».proof.Proof.Gen.XattnRefIdeal.Read
public import proofs.«01_k».proof.Proof.Gen.AttnRefIdeal.Run
public import proofs.«01_k».proof.Proof.Gen.AttnRefIdeal.Read
public import proofs.«01_k».proof.Proof.OutClaim
public import Idealize.ShloMosaic.Adequacy
public import Idealize.ShloMosaic.Init
public import proofs.«01_k».proof.Proof.XattnClaim
public import proofs.«01_k».proof.Proof.AttnClaim

/-! The certificate: the frames of the three calls, of their readings over the extended reals and of their references,
and the equations of the calls with the references. -/

@[expose] public section
set_option maxRecDepth 16384
noncomputable section

namespace Cert.Proof

open Idealize.ShloMosaic Idealize.SL.Sem

theorem claim : Cert.Claim := ⟨Cert.Xattn.Gen.facts, Cert.XattnIdeal.Gen.facts, Cert.XattnRefIdeal.Gen.facts, Cert.Out.Gen.facts, Cert.OutIdeal.Gen.facts, Cert.OutRefIdeal.Gen.facts, Cert.Attn.Gen.facts, Cert.AttnIdeal.Gen.facts, Cert.AttnRefIdeal.Gen.facts, Cert.Pre_xattn_finite.Gen.facts, Cert.Pre_attn_finite.Gen.facts,
  fun m ρ _ => Cert.Xattn.Gen.frame m ρ,
  fun m ρ _ => Cert.XattnIdeal.Gen.frame m ρ,
  fun m ρ _ => Cert.XattnIdeal.Gen.frame m ρ,
  fun m ρ _ => (θ_run Cert.XattnRefIdeal.defs _ _).mono
    (fun r h => ⟨fun c => (h c).2, sem_eq_zero_of_no_sems (by decide) r.2⟩) (Cert.XattnRefIdeal.Value.run m ρ),
  fun m ρ _ => (θ_run Cert.XattnRefIdeal.defs _ _).mono
    (fun r h => ⟨fun c => (h c).2, sem_eq_zero_of_no_sems (by decide) r.2⟩) (Cert.XattnRefIdeal.Value.run m ρ),
  fun m ρ _ => Cert.Out.Gen.frame m ρ,
  fun m ρ _ => Cert.OutIdeal.Gen.frame m ρ,
  fun m ρ _ => (θ_run Cert.OutRefIdeal.defs _ _).mono
    (fun r h => ⟨fun c => (h c).2, sem_eq_zero_of_no_sems (by decide) r.2⟩) (Cert.OutRefIdeal.Value.run m ρ),
  fun m ρ _ => Cert.Attn.Gen.frame m ρ,
  fun m ρ _ => Cert.AttnIdeal.Gen.frame m ρ,
  fun m ρ _ => Cert.AttnIdeal.Gen.frame m ρ,
  fun m ρ _ => (θ_run Cert.AttnRefIdeal.defs _ _).mono
    (fun r h => ⟨fun c => (h c).2, sem_eq_zero_of_no_sems (by decide) r.2⟩) (Cert.AttnRefIdeal.Value.run m ρ),
  fun m ρ _ => (θ_run Cert.AttnRefIdeal.defs _ _).mono
    (fun r h => ⟨fun c => (h c).2, sem_eq_zero_of_no_sems (by decide) r.2⟩) (Cert.AttnRefIdeal.Value.run m ρ),
  trivial,
  Cert.XattnClaim.algebraic,
  trivial,
  Cert.OutClaim.algebraic,
  IdealRules.named_const.statement Cert.AttnIdeal.κ "log2e" .f32 0x3FB8AA3B#32 (((Real.log 2)⁻¹ : ℝ) : EReal) rfl,
  Cert.AttnClaim.algebraic⟩

end Cert.Proof

end
